-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  IdealRules.named_const.Statement Cert.KernelIdeal.κ "gelu_cubic" .f32 0x3D922279#32 ((80338380498831 / 1125899906842624 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v229) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x8192x512 : Shape := ⟨3, ![4, 8192, 512]⟩
abbrev S512x512 : Shape := ⟨2, ![512, 512]⟩
abbrev S512 : Shape := ⟨1, ![512]⟩
abbrev S2048 : Shape := ⟨1, ![2048]⟩
abbrev S2048x1024 : Shape := ⟨2, ![2048, 1024]⟩
abbrev S1024 : Shape := ⟨1, ![1024]⟩
abbrev S1024x512 : Shape := ⟨2, ![1024, 512]⟩
abbrev S_ : Shape := ⟨0, ![]⟩

class Facts : Prop where
  bcast_S_S4x8192x512 : S_.BroadcastsInDim S4x8192x512 (![] : Fin 0 → Fin S4x8192x512.rank)
  bcast_S_S512x512 : S_.BroadcastsInDim S512x512 (![] : Fin 0 → Fin S512x512.rank)
  bcast_S_S512 : S_.BroadcastsInDim S512 (![] : Fin 0 → Fin S512.rank)
  bcast_S_S2048 : S_.BroadcastsInDim S2048 (![] : Fin 0 → Fin S2048.rank)
  bcast_S_S2048x1024 : S_.BroadcastsInDim S2048x1024 (![] : Fin 0 → Fin S2048x1024.rank)
  bcast_S_S1024 : S_.BroadcastsInDim S1024 (![] : Fin 0 → Fin S1024.rank)
  bcast_S_S1024x512 : S_.BroadcastsInDim S1024x512 (![] : Fin 0 → Fin S1024x512.rank)

variable [Facts]

def fn_part2 {F : FTy → Type} [FloatOps F] (main_arg12 : FVec F S2048 .f32) (main_arg13 : FVec F S2048 .f32) (main_arg14 : FVec F S2048x1024 .f32) (main_arg15 : FVec F S1024 .f32) (main_arg16 : FVec F S1024x512 .f32) (main_arg17 : FVec F S512 .f32) (main_v2 : IVec S4x8192x512 1) (main_v5 : IVec S512x512 1) (main_v8 : IVec S512 1) (main_v11 : IVec S512x512 1) (main_v14 : IVec S512 1) (main_v17 : IVec S512x512 1) (main_v20 : IVec S512 1) (main_v23 : IVec S512 1) (main_v26 : IVec S512x512 1) (main_v29 : IVec S512 1) (main_v32 : IVec S512x512 1) (main_v35 : IVec S512 1) : IVec S4x8192x512 1 × IVec S512x512 1 × IVec S512 1 × IVec S512x512 1 × IVec S512 1 × IVec S512x512 1 × IVec S512 1 × IVec S512 1 × IVec S512x512 1 × IVec S512 1 × IVec S512x512 1 × IVec S512 1 × IVec S2048 1 × IVec S2048 1 × IVec S2048x1024 1 × IVec S1024 1 × IVec S1024x512 1 × IVec S512 1 :=
  let main_v36 : FVec F S2048 .f32 := Host.absf main_arg12
  let main_cst_11 : FVec F S_ .f32 := constant S_ .f32 0x7F800000#32
  let main_v37 : FVec F S2048 .f32 := broadcastInDim S2048 ![] bcast_S_S2048 main_cst_11
  let main_v38 : IVec S2048 1 := cmpf .olt main_v36 main_v37
  let main_v39 : FVec F S2048 .f32 := Host.absf main_arg13
  let main_cst_12 : FVec F S_ .f32 := constant S_ .f32 0x7F800000#32
  let main_v40 : FVec F S2048 .f32 := broadcastInDim S2048 ![] bcast_S_S2048 main_cst_12
  let main_v41 : IVec S2048 1 := cmpf .olt main_v39 main_v40
  let main_v42 : FVec F S2048x1024 .f32 := Host.absf main_arg14
  let main_cst_13 : FVec F S_ .f32 := constant S_ .f32 0x7F800000#32
  let main_v43 : FVec F S2048x1024 .f32 := broadcastInDim S2048x1024 ![] bcast_S_S2048x1024 main_cst_13
  let main_v44 : IVec S2048x1024 1 := cmpf .olt main_v42 main_v43
  let main_v45 : FVec F S1024 .f32 := Host.absf main_arg15
  let main_cst_14 : FVec F S_ .f32 := constant S_ .f32 0x7F800000#32
  let main_v46 : FVec F S1024 .f32 := broadcastInDim S1024 ![] bcast_S_S1024 main_cst_14
  let main_v47 : IVec S1024 1 := cmpf .olt main_v45 main_v46
  let main_v48 : FVec F S1024x512 .f32 := Host.absf main_arg16
  let main_cst_15 : FVec F S_ .f32 := constant S_ .f32 0x7F800000#32
  let main_v49 : FVec F S1024x512 .f32 := broadcastInDim S1024x512 ![] bcast_S_S1024x512 main_cst_15
  let main_v50 : IVec S1024x512 1 := cmpf .olt main_v48 main_v49
  let main_v51 : FVec F S512 .f32 := Host.absf main_arg17
  let main_cst_16 : FVec F S_ .f32 := constant S_ .f32 0x7F800000#32
  let main_v52 : FVec F S512 .f32 := broadcastInDim S512 ![] bcast_S_S512 main_cst_16
  let main_v53 : IVec S512 1 := cmpf .olt main_v51 main_v52
  (main_v2, main_v5, main_v8, main_v11, main_v14, main_v17, main_v20, main_v23, main_v26, main_v29, main_v32, main_v35, main_v38, main_v41, main_v44, main_v47, main_v50, main_v53)

def fn_part1 {F : FTy → Type} [FloatOps F] (main_arg6 : FVec F S512 .f32) (main_arg7 : FVec F S512 .f32) (main_arg8 : FVec F S512x512 .f32) (main_arg9 : FVec F S512 .f32) (main_arg10 : FVec F S512x512 .f32) (main_arg11 : FVec F S512 .f32) (main_arg12 : FVec F S2048 .f32) (main_arg13 : FVec F S2048 .f32) (main_arg14 : FVec F S2048x1024 .f32) (main_arg15 : FVec F S1024 .f32) (main_arg16 : FVec F S1024x512 .f32) (main_arg17 : FVec F S512 .f32) (main_v2 : IVec S4x8192x512 1) (main_v5 : IVec S512x512 1) (main_v8 : IVec S512 1) (main_v11 : IVec S512x512 1) (main_v14 : IVec S512 1) (main_v17 : IVec S512x512 1) : IVec S4x8192x512 1 × IVec S512x512 1 × IVec S512 1 × IVec S512x512 1 × IVec S512 1 × IVec S512x512 1 × IVec S512 1 × IVec S512 1 × IVec S512x512 1 × IVec S512 1 × IVec S512x512 1 × IVec S512 1 × IVec S2048 1 × IVec S2048 1 × IVec S2048x1024 1 × IVec S1024 1 × IVec S1024x512 1 × IVec S512 1 :=
  let main_v18 : FVec F S512 .f32 := Host.absf main_arg6
  let main_cst_5 : FVec F S_ .f32 := constant S_ .f32 0x7F800000#32
  let main_v19 : FVec F S512 .f32 := broadcastInDim S512 ![] bcast_S_S512 main_cst_5
  let main_v20 : IVec S512 1 := cmpf .olt main_v18 main_v19
  let main_v21 : FVec F S512 .f32 := Host.absf main_arg7
  let main_cst_6 : FVec F S_ .f32 := constant S_ .f32 0x7F800000#32
  let main_v22 : FVec F S512 .f32 := broadcastInDim S512 ![] bcast_S_S512 main_cst_6
  let main_v23 : IVec S512 1 := cmpf .olt main_v21 main_v22
  let main_v24 : FVec F S512x512 .f32 := Host.absf main_arg8
  let main_cst_7 : FVec F S_ .f32 := constant S_ .f32 0x7F800000#32
  let main_v25 : FVec F S512x512 .f32 := broadcastInDim S512x512 ![] bcast_S_S512x512 main_cst_7
  let main_v26 : IVec S512x512 1 := cmpf .olt main_v24 main_v25
  let main_v27 : FVec F S512 .f32 := Host.absf main_arg9
  let main_cst_8 : FVec F S_ .f32 := constant S_ .f32 0x7F800000#32
  let main_v28 : FVec F S512 .f32 := broadcastInDim S512 ![] bcast_S_S512 main_cst_8
  let main_v29 : IVec S512 1 := cmpf .olt main_v27 main_v28
  let main_v30 : FVec F S512x512 .f32 := Host.absf main_arg10
  let main_cst_9 : FVec F S_ .f32 := constant S_ .f32 0x7F800000#32
  let main_v31 : FVec F S512x512 .f32 := broadcastInDim S512x512 ![] bcast_S_S512x512 main_cst_9
  let main_v32 : IVec S512x512 1 := cmpf .olt main_v30 main_v31
  let main_v33 : FVec F S512 .f32 := Host.absf main_arg11
  let main_cst_10 : FVec F S_ .f32 := constant S_ .f32 0x7F800000#32
  let main_v34 : FVec F S512 .f32 := broadcastInDim S512 ![] bcast_S_S512 main_cst_10
  let main_v35 : IVec S512 1 := cmpf .olt main_v33 main_v34
  fn_part2 (F := F) main_arg12 main_arg13 main_arg14 main_arg15 main_arg16 main_arg17 main_v2 main_v5 main_v8 main_v11 main_v14 main_v17 main_v20 main_v23 main_v26 main_v29 main_v32 main_v35

def fn {F : FTy → Type} [FloatOps F] (main_arg0 : FVec F S4x8192x512 .f32) (main_arg1 : FVec F S512x512 .f32) (main_arg2 : FVec F S512 .f32) (main_arg3 : FVec F S512x512 .f32) (main_arg4 : FVec F S512 .f32) (main_arg5 : FVec F S512x512 .f32) (main_arg6 : FVec F S512 .f32) (main_arg7 : FVec F S512 .f32) (main_arg8 : FVec F S512x512 .f32) (main_arg9 : FVec F S512 .f32) (main_arg10 : FVec F S512x512 .f32) (main_arg11 : FVec F S512 .f32) (main_arg12 : FVec F S2048 .f32) (main_arg13 : FVec F S2048 .f32) (main_arg14 : FVec F S2048x1024 .f32) (main_arg15 : FVec F S1024 .f32) (main_arg16 : FVec F S1024x512 .f32) (main_arg17 : FVec F S512 .f32) : IVec S4x8192x512 1 × IVec S512x512 1 × IVec S512 1 × IVec S512x512 1 × IVec S512 1 × IVec S512x512 1 × IVec S512 1 × IVec S512 1 × IVec S512x512 1 × IVec S512 1 × IVec S512x512 1 × IVec S512 1 × IVec S2048 1 × IVec S2048 1 × IVec S2048x1024 1 × IVec S1024 1 × IVec S1024x512 1 × IVec S512 1 :=
  let main_v0 : FVec F S4x8192x512 .f32 := Host.absf main_arg0
  let main_cst : FVec F S_ .f32 := constant S_ .f32 0x7F800000#32
  let main_v1 : FVec F S4x8192x512 .f32 := broadcastInDim S4x8192x512 ![] bcast_S_S4x8192x512 main_cst
  let main_v2 : IVec S4x8192x512 1 := cmpf .olt main_v0 main_v1
  let main_v3 : FVec F S512x512 .f32 := Host.absf main_arg1
  let main_cst_0 : FVec F S_ .f32 := constant S_ .f32 0x7F800000#32
  let main_v4 : FVec F S512x512 .f32 := broadcastInDim S512x512 ![] bcast_S_S512x512 main_cst_0
  let main_v5 : IVec S512x512 1 := cmpf .olt main_v3 main_v4
  let main_v6 : FVec F S512 .f32 := Host.absf main_arg2
  let main_cst_1 : FVec F S_ .f32 := constant S_ .f32 0x7F800000#32
  let main_v7 : FVec F S512 .f32 := broadcastInDim S512 ![] bcast_S_S512 main_cst_1
  let main_v8 : IVec S512 1 := cmpf .olt main_v6 main_v7
  let main_v9 : FVec F S512x512 .f32 := Host.absf main_arg3
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_v12 : FVec F S512 .f32 := Host.absf main_arg4
  let main_cst_3 : FVec F S_ .f32 := constant S_ .f32 0x7F800000#32
  let main_v13 : FVec F S512 .f32 := broadcastInDim S512 ![] bcast_S_S512 main_cst_3
  let main_v14 : IVec S512 1 := cmpf .olt main_v12 main_v13
  let main_v15 : FVec F S512x512 .f32 := Host.absf main_arg5
  let main_cst_4 : FVec F S_ .f32 := constant S_ .f32 0x7F800000#32
  let main_v16 : FVec F S512x512 .f32 := broadcastInDim S512x512 ![] bcast_S_S512x512 main_cst_4
  let main_v17 : IVec S512x512 1 := cmpf .olt main_v15 main_v16
  fn_part1 (F := F) main_arg6 main_arg7 main_arg8 main_arg9 main_arg10 main_arg11 main_arg12 main_arg13 main_arg14 main_arg15 main_arg16 main_arg17 main_v2 main_v5 main_v8 main_v11 main_v14 main_v17
-- ==== Kernel.lean ====
abbrev S4x8192x512 : Shape := ⟨3, ![4, 8192, 512]⟩
abbrev S512x512 : Shape := ⟨2, ![512, 512]⟩
abbrev S512 : Shape := ⟨1, ![512]⟩
abbrev S2048 : Shape := ⟨1, ![2048]⟩
abbrev S2048x1024 : Shape := ⟨2, ![2048, 1024]⟩
abbrev S1024 : Shape := ⟨1, ![1024]⟩
abbrev S1024x512 : Shape := ⟨2, ![1024, 512]⟩
abbrev S_ : Shape := ⟨0, ![]⟩
abbrev S2048x1 : Shape := ⟨2, ![2048, 1]⟩
abbrev S1x1024 : Shape := ⟨2, ![1, 1024]⟩
abbrev S1x512 : Shape := ⟨2, ![1, 512]⟩
abbrev S1x2048x512 : Shape := ⟨3, ![1, 2048, 512]⟩
abbrev S1x512x512 : Shape := ⟨3, ![1, 512, 512]⟩
abbrev S512x1 : Shape := ⟨2, ![512, 1]⟩
abbrev S512x1024 : Shape := ⟨2, ![512, 1024]⟩

abbrev nBuf : Space → Nat
  | .hbm => 53
  | .vmem => 25
  | .smem => 0
  | _ => 0

abbrev bufTy : (tb : Table) → Fin (tcTables nBuf tb) → BufTy
  | .hbm, ⟨0, _⟩ => ⟨S4x8192x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512, .f32⟩
  | .hbm, ⟨8, _⟩ => ⟨S512x512, .f32⟩
  | .hbm, ⟨9, _⟩ => ⟨S512, .f32⟩
  | .hbm, ⟨10, _⟩ => ⟨S512x512, .f32⟩
  | .hbm, ⟨11, _⟩ => ⟨S512, .f32⟩
  | .hbm, ⟨12, _⟩ => ⟨S2048, .f32⟩
  | .hbm, ⟨13, _⟩ => ⟨S2048, .f32⟩
  | .hbm, ⟨14, _⟩ => ⟨S2048x1024, .f32⟩
  | .hbm, ⟨15, _⟩ => ⟨S1024, .f32⟩
  | .hbm, ⟨16, _⟩ => ⟨S1024x512, .f32⟩
  | .hbm, ⟨17, _⟩ => ⟨S512, .f32⟩
  | .hbm, ⟨18, _⟩ => ⟨S_, .bf16⟩
  | .hbm, ⟨19, _⟩ => ⟨S512x512, .bf16⟩
  | .hbm, ⟨20, _⟩ => ⟨S512x512, .i32⟩
  | .hbm, ⟨21, _⟩ => ⟨S_, .i32⟩
  | .hbm, ⟨22, _⟩ => ⟨S512x512, .i32⟩
  | .hbm, ⟨23, _⟩ => ⟨S512x512, .i32⟩
  | .hbm, ⟨24, _⟩ => ⟨S512x512, .i32⟩
  | .hbm, ⟨25, _⟩ => ⟨S512x512, .i1⟩
  | .hbm, ⟨26, _⟩ => ⟨S_, .bf16⟩
  | .hbm, ⟨27, _⟩ => ⟨S512x512, .bf16⟩
  | .hbm, ⟨28, _⟩ => ⟨S512x512, .bf16⟩
  | .hbm, ⟨29, _⟩ => ⟨S2048x1, .f32⟩
  | .hbm, ⟨30, _⟩ => ⟨S2048x1024, .f32⟩
  | .hbm, ⟨31, _⟩ => ⟨S2048x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S1024, .f32⟩
  | .hbm, ⟨36, _⟩ => ⟨S1024, .f32⟩
  | .hbm, ⟨37, _⟩ => ⟨S1x1024, .f32⟩
  | .hbm, ⟨38, _⟩ => ⟨S512x512, .bf16⟩
  | .hbm, ⟨39, _⟩ => ⟨S1x512, .f32⟩
  | .hbm, ⟨40, _⟩ => ⟨S512x512, .bf16⟩
  | .hbm, ⟨41, _⟩ => ⟨S1x512, .f32⟩
  | .hbm, ⟨42, _⟩ => ⟨S512x512, .bf16⟩
  | .hbm, ⟨43, _⟩ => ⟨S1x512, .f32⟩
  | .hbm, ⟨44, _⟩ => ⟨S1x512, .f32⟩
  | .hbm, ⟨45, _⟩ => ⟨S512x512, .bf16⟩
  | .hbm, ⟨46, _⟩ => ⟨S1x512, .f32⟩
  | .hbm, ⟨47, _⟩ => ⟨S512x512, .bf16⟩
  | .hbm, ⟨48, _⟩ => ⟨S1x512, .f32⟩
  | .hbm, ⟨49, _⟩ => ⟨S2048x1024, .bf16⟩
  | .hbm, ⟨50, _⟩ => ⟨S1024x512, .bf16⟩
  | .hbm, ⟨51, _⟩ => ⟨S1x512, .f32⟩
  | .hbm, ⟨52, _⟩ => ⟨S4x8192x512, .f32⟩
  | .local _ .vmem, ⟨0, _⟩ => ⟨S512x512, .bf16⟩
  | .local _ .vmem, ⟨1, _⟩ => ⟨S1x2048x512, .f32⟩
  | .local _ .vmem, ⟨2, _⟩ => ⟨S1x2048x512, .f32⟩
  | .local _ .vmem, ⟨3, _⟩ => ⟨S512x512, .bf16⟩
  | .local _ .vmem, ⟨4, _⟩ => ⟨S1x512, .f32⟩
  | .local _ .vmem, ⟨5, _⟩ => ⟨S512x512, .bf16⟩
  | .local _ .vmem, ⟨6, _⟩ => ⟨S1x512, .f32⟩
  | .local _ .vmem, ⟨7, _⟩ => ⟨S512x512, .bf16⟩
  | .local _ .vmem, ⟨8, _⟩ => ⟨S1x512, .f32⟩
  | .local _ .vmem, ⟨9, _⟩ => ⟨S1x512, .f32⟩
  | .local _ .vmem, ⟨10, _⟩ => ⟨S512x512, .bf16⟩
  | .local _ .vmem, ⟨11, _⟩ => ⟨S1x512, .f32⟩
  | .local _ .vmem, ⟨12, _⟩ => ⟨S512x512, .bf16⟩
  | .local _ .vmem, ⟨13, _⟩ => ⟨S1x512, .f32⟩
  | .local _ .vmem, ⟨14, _⟩ => ⟨S2048x1024, .bf16⟩
  | .local _ .vmem, ⟨15, _⟩ => ⟨S1x1024, .f32⟩
  | .local _ .vmem, ⟨16, _⟩ => ⟨S1x1024, .f32⟩
  | .local _ .vmem, ⟨17, _⟩ => ⟨S1024x512, .bf16⟩
  | .local _ .vmem, ⟨18, _⟩ => ⟨S1x512, .f32⟩
  | .local _ .vmem, ⟨19, _⟩ => ⟨S1x2048x512, .f32⟩
  | .local _ .vmem, ⟨20, _⟩ => ⟨S1x2048x512, .f32⟩
  | .local _ .vmem, ⟨21, _⟩ => ⟨S1x512, .f32⟩
  | .local _ .vmem, ⟨22, _⟩ => ⟨S1x512, .f32⟩
  | .local _ .vmem, ⟨23, _⟩ => ⟨S1x512, .f32⟩
  | .local _ .vmem, ⟨24, _⟩ => ⟨S1x512, .f32⟩
  | _, _ => ⟨S4x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_call0_cst : Ref sig .tc := ⟨.hbm, 18, rfl⟩
abbrev main_call0_v0 : Ref sig .tc := ⟨.hbm, 19, rfl⟩
abbrev main_call0_call0_v0 : Ref sig .tc := ⟨.hbm, 20, rfl⟩
abbrev main_call0_call0_c : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_cst : Ref sig .tc := ⟨.hbm, 26, rfl⟩
abbrev main_call0_call0_v5 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_cst_0 : Ref sig .tc := ⟨.hbm, 32, rfl⟩
abbrev main_call0_v5 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_v12 : Ref sig .tc := ⟨.hbm, 40, rfl⟩
abbrev main_call0_v13 : Ref sig .tc := ⟨.hbm, 41, rfl⟩
abbrev main_call0_v14 : Ref sig .tc := ⟨.hbm, 42, rfl⟩
abbrev main_call0_v15 : Ref sig .tc := ⟨.hbm, 43, rfl⟩
abbrev main_call0_v16 : Ref sig .tc := ⟨.hbm, 44, rfl⟩
abbrev main_call0_v17 : Ref sig .tc := ⟨.hbm, 45, rfl⟩
abbrev main_call0_v18 : Ref sig .tc := ⟨.hbm, 46, rfl⟩
abbrev main_call0_v19 : Ref sig .tc := ⟨.hbm, 47, rfl⟩
abbrev main_call0_v20 : Ref sig .tc := ⟨.hbm, 48, rfl⟩
abbrev main_call0_v21 : Ref sig .tc := ⟨.hbm, 49, rfl⟩
abbrev main_call0_v22 : Ref sig .tc := ⟨.hbm, 50, rfl⟩
abbrev main_call0_v23 : Ref sig .tc := ⟨.hbm, 51, rfl⟩
abbrev main_v0 : Ref sig .tc := ⟨.hbm, 52, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg18_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem18_1 : DmaSem sig := 20

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S512x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S2048x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1024x512 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 2 → Memref sig .tc .vmem S1x2048x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== KernelIdeal.lean ====
variable {F : FTy → Type} [FloatOps F] [Named F]
def κ : String → Option EReal := fun
  | "gelu_cubic" => some ((80338380498831 / 1125899906842624 : ℝ) : EReal)
  | _ => none
-- ==== ReferenceIdeal.lean ====
abbrev S4x8192x512 : Shape := ⟨3, ![4, 8192, 512]⟩
abbrev S512x512 : Shape := ⟨2, ![512, 512]⟩
abbrev S512 : Shape := ⟨1, ![512]⟩
abbrev S2048 : Shape := ⟨1, ![2048]⟩
abbrev S2048x1024 : Shape := ⟨2, ![2048, 1024]⟩
abbrev S1024 : Shape := ⟨1, ![1024]⟩
abbrev S1024x512 : Shape := ⟨2, ![1024, 512]⟩
abbrev S1x1x512 : Shape := ⟨3, ![1, 1, 512]⟩
abbrev S_ : Shape := ⟨0, ![]⟩
abbrev S4x8192x2048 : Shape := ⟨3, ![4, 8192, 2048]⟩
abbrev S4x8192 : Shape := ⟨2, ![4, 8192]⟩
abbrev S4x8192x1 : Shape := ⟨3, ![4, 8192, 1]⟩
abbrev S1x1x2048 : Shape := ⟨3, ![1, 1, 2048]⟩
abbrev S4x8192x1024 : Shape := ⟨3, ![4, 8192, 1024]⟩
abbrev S1x1x1024 : Shape := ⟨3, ![1, 1, 1024]⟩

abbrev nBuf : Space → Nat
  | .hbm => 328
  | .vmem => 0
  | .smem => 0
  | _ => 0

abbrev hbmTy0_0 (i : Nat) : BufTy := match i % 128 with
  | 0 => ⟨S4x8192x512, .f32⟩
  | 1 => ⟨S512x512, .f32⟩
  | 2 => ⟨S512, .f32⟩
  | 3 => ⟨S512x512, .f32⟩
  | 4 => ⟨S512, .f32⟩
  | 5 => ⟨S512x512, .f32⟩
  | 6 => ⟨S512, .f32⟩
  | 7 => ⟨S512, .f32⟩
  | 8 => ⟨S512x512, .f32⟩
  | 9 => ⟨S512, .f32⟩
  | 10 => ⟨S512x512, .f32⟩
  | 11 => ⟨S512, .f32⟩
  | 12 => ⟨S2048, .f32⟩
  | 13 => ⟨S2048, .f32⟩
  | 14 => ⟨S2048x1024, .f32⟩
  | 15 => ⟨S1024, .f32⟩
  | 16 => ⟨S1024x512, .f32⟩
  | 17 => ⟨S512, .f32⟩
  | 18 => ⟨S4x8192x512, .f32⟩
  | 19 => ⟨S1x1x512, .f32⟩
  | 20 => ⟨S4x8192x512, .f32⟩
  | 21 => ⟨S4x8192x512, .f32⟩
  | 22 => ⟨S4x8192x512, .f32⟩
  | 23 => ⟨S1x1x512, .f32⟩
  | 24 => ⟨S4x8192x512, .f32⟩
  | 25 => ⟨S4x8192x512, .f32⟩
  | 26 => ⟨S4x8192x512, .f32⟩
  | 27 => ⟨S4x8192x512, .f32⟩
  | 28 => ⟨S_, .f32⟩
  | 29 => ⟨S4x8192x512, .f32⟩
  | 30 => ⟨S4x8192x512, .f32⟩
  | 31 => ⟨S_, .f32⟩
  | 32 => ⟨S4x8192x512, .f32⟩
  | 33 => ⟨S4x8192x512, .f32⟩
  | 34 => ⟨S_, .f32⟩
  | 35 => ⟨S4x8192x512, .f32⟩
  | 36 => ⟨S4x8192x512, .f32⟩
  | 37 => ⟨S4x8192x512, .f32⟩
  | 38 => ⟨S1x1x512, .f32⟩
  | 39 => ⟨S4x8192x512, .f32⟩
  | 40 => ⟨S4x8192x512, .f32⟩
  | 41 => ⟨S4x8192x512, .f32⟩
  | 42 => ⟨S4x8192x512, .f32⟩
  | 43 => ⟨S_, .f32⟩
  | 44 => ⟨S4x8192x512, .f32⟩
  | 45 => ⟨S4x8192x512, .f32⟩
  | 46 => ⟨S4x8192x512, .f32⟩
  | 47 => ⟨S_, .f32⟩
  | 48 => ⟨S4x8192x512, .f32⟩
  | 49 => ⟨S4x8192x512, .f32⟩
  | 50 => ⟨S4x8192x512, .f32⟩
  | 51 => ⟨S_, .f32⟩
  | 52 => ⟨S4x8192x512, .f32⟩
  | 53 => ⟨S4x8192x512, .f32⟩
  | 54 => ⟨S_, .f32⟩
  | 55 => ⟨S4x8192x512, .f32⟩
  | 56 => ⟨S4x8192x512, .f32⟩
  | 57 => ⟨S4x8192x512, .f32⟩
  | 58 => ⟨S4x8192x512, .f32⟩
  | 59 => ⟨S1x1x512, .f32⟩
  | 60 => ⟨S4x8192x512, .f32⟩
  | 61 => ⟨S4x8192x512, .f32⟩
  | 62 => ⟨S512, .f32⟩
  | 63 => ⟨S1x1x512, .f32⟩
  | 64 => ⟨S4x8192x512, .f32⟩
  | 65 => ⟨S4x8192x512, .f32⟩
  | 66 => ⟨S_, .f32⟩
  | 67 => ⟨S_, .f32⟩
  | 68 => ⟨S4x8192x512, .f32⟩
  | 69 => ⟨S4x8192x512, .f32⟩
  | 70 => ⟨S_, .f32⟩
  | 71 => ⟨S4x8192x512, .f32⟩
  | 72 => ⟨S4x8192x512, .f32⟩
  | 73 => ⟨S4x8192x512, .f32⟩
  | 74 => ⟨S4x8192x512, .i32⟩
  | 75 => ⟨S4x8192x512, .f32⟩
  | 76 => ⟨S_, .f32⟩
  | 77 => ⟨S4x8192x512, .f32⟩
  | 78 => ⟨S4x8192x512, .f32⟩
  | 79 => ⟨S_, .f32⟩
  | 80 => ⟨S4x8192x512, .f32⟩
  | 81 => ⟨S4x8192x512, .f32⟩
  | 82 => ⟨S4x8192x512, .f32⟩
  | 83 => ⟨S4x8192x512, .f32⟩
  | 84 => ⟨S4x8192x512, .f32⟩
  | 85 => ⟨S4x8192x512, .f32⟩
  | 86 => ⟨S4x8192x512, .f32⟩
  | 87 => ⟨S4x8192x512, .f32⟩
  | 88 => ⟨S_, .f32⟩
  | 89 => ⟨S4x8192x512, .f32⟩
  | 90 => ⟨S4x8192x512, .f32⟩
  | 91 => ⟨S_, .f32⟩
  | 92 => ⟨S4x8192x512, .f32⟩
  | 93 => ⟨S4x8192x512, .f32⟩
  | 94 => ⟨S4x8192x512, .f32⟩
  | 95 => ⟨S_, .f32⟩
  | 96 => ⟨S4x8192x512, .f32⟩
  | 97 => ⟨S4x8192x512, .f32⟩
  | 98 => ⟨S4x8192x512, .f32⟩
  | 99 => ⟨S4x8192x512, .f32⟩
  | 100 => ⟨S4x8192x512, .f32⟩
  | 101 => ⟨S4x8192x512, .f32⟩
  | 102 => ⟨S4x8192x512, .f32⟩
  | 103 => ⟨S_, .f32⟩
  | 104 => ⟨S4x8192x512, .f32⟩
  | 105 => ⟨S4x8192x512, .f32⟩
  | 106 => ⟨S_, .f32⟩
  | 107 => ⟨S4x8192x512, .f32⟩
  | 108 => ⟨S4x8192x512, .f32⟩
  | 109 => ⟨S4x8192x512, .f32⟩
  | 110 => ⟨S_, .f32⟩
  | 111 => ⟨S4x8192x512, .f32⟩
  | 112 => ⟨S4x8192x512, .f32⟩
  | 113 => ⟨S4x8192x512, .f32⟩
  | 114 => ⟨S_, .f32⟩
  | 115 => ⟨S4x8192x512, .f32⟩
  | 116 => ⟨S4x8192x512, .f32⟩
  | 117 => ⟨S_, .i32⟩
  | 118 => ⟨S4x8192x512, .i32⟩
  | 119 => ⟨S4x8192x512, .i32⟩
  | 120 => ⟨S_, .i32⟩
  | 121 => ⟨S4x8192x512, .i32⟩
  | 122 => ⟨S4x8192x512, .i1⟩
  | 123 => ⟨S_, .i32⟩
  | 124 => ⟨S4x8192x512, .i32⟩
  | 125 => ⟨S4x8192x512, .i1⟩
  | 126 => ⟨S_, .i32⟩
  | 127 => ⟨S4x8192x512, .i32⟩
  | _ => ⟨S4x8192x512, .f32⟩

abbrev hbmTy0_1 (i : Nat) : BufTy := match i % 128 with
  | 0 => ⟨S4x8192x512, .i1⟩
  | 1 => ⟨S4x8192x512, .f32⟩
  | 2 => ⟨S4x8192x512, .f32⟩
  | 3 => ⟨S4x8192x512, .f32⟩
  | 4 => ⟨S4x8192x512, .f32⟩
  | 5 => ⟨S4x8192x512, .f32⟩
  | 6 => ⟨S_, .i32⟩
  | 7 => ⟨S4x8192x512, .i32⟩
  | 8 => ⟨S4x8192x512, .i1⟩
  | 9 => ⟨S_, .i32⟩
  | 10 => ⟨S4x8192x512, .i32⟩
  | 11 => ⟨S4x8192x512, .i1⟩
  | 12 => ⟨S4x8192x512, .f32⟩
  | 13 => ⟨S_, .i32⟩
  | 14 => ⟨S4x8192x512, .i32⟩
  | 15 => ⟨S4x8192x512, .i1⟩
  | 16 => ⟨S4x8192x512, .f32⟩
  | 17 => ⟨S4x8192x512, .f32⟩
  | 18 => ⟨S4x8192x512, .f32⟩
  | 19 => ⟨S4x8192x512, .f32⟩
  | 20 => ⟨S4x8192x512, .f32⟩
  | 21 => ⟨S4x8192x512, .f32⟩
  | 22 => ⟨S_, .f32⟩
  | 23 => ⟨S_, .f32⟩
  | 24 => ⟨S4x8192x512, .f32⟩
  | 25 => ⟨S4x8192x512, .f32⟩
  | 26 => ⟨S_, .f32⟩
  | 27 => ⟨S_, .f32⟩
  | 28 => ⟨S4x8192x512, .f32⟩
  | 29 => ⟨S_, .f32⟩
  | 30 => ⟨S_, .f32⟩
  | 31 => ⟨S4x8192x512, .f32⟩
  | 32 => ⟨S_, .f32⟩
  | 33 => ⟨S4x8192x512, .f32⟩
  | 34 => ⟨S4x8192x512, .f32⟩
  | 35 => ⟨S4x8192x512, .f32⟩
  | 36 => ⟨S4x8192x512, .f32⟩
  | 37 => ⟨S4x8192x512, .f32⟩
  | 38 => ⟨S4x8192x512, .f32⟩
  | 39 => ⟨S4x8192x512, .f32⟩
  | 40 => ⟨S1x1x512, .f32⟩
  | 41 => ⟨S4x8192x512, .f32⟩
  | 42 => ⟨S4x8192x512, .f32⟩
  | 43 => ⟨S_, .f32⟩
  | 44 => ⟨S4x8192x512, .f32⟩
  | 45 => ⟨S4x8192x512, .f32⟩
  | 46 => ⟨S4x8192x512, .f32⟩
  | 47 => ⟨S4x8192x512, .i32⟩
  | 48 => ⟨S4x8192x512, .f32⟩
  | 49 => ⟨S_, .f32⟩
  | 50 => ⟨S4x8192x512, .f32⟩
  | 51 => ⟨S4x8192x512, .f32⟩
  | 52 => ⟨S_, .f32⟩
  | 53 => ⟨S4x8192x512, .f32⟩
  | 54 => ⟨S4x8192x512, .f32⟩
  | 55 => ⟨S4x8192x512, .f32⟩
  | 56 => ⟨S4x8192x512, .f32⟩
  | 57 => ⟨S4x8192x512, .f32⟩
  | 58 => ⟨S4x8192x512, .f32⟩
  | 59 => ⟨S4x8192x512, .f32⟩
  | 60 => ⟨S4x8192x512, .f32⟩
  | 61 => ⟨S_, .f32⟩
  | 62 => ⟨S4x8192x512, .f32⟩
  | 63 => ⟨S4x8192x512, .f32⟩
  | 64 => ⟨S_, .f32⟩
  | 65 => ⟨S4x8192x512, .f32⟩
  | 66 => ⟨S4x8192x512, .f32⟩
  | 67 => ⟨S4x8192x512, .f32⟩
  | 68 => ⟨S_, .f32⟩
  | 69 => ⟨S4x8192x512, .f32⟩
  | 70 => ⟨S4x8192x512, .f32⟩
  | 71 => ⟨S4x8192x512, .f32⟩
  | 72 => ⟨S4x8192x512, .f32⟩
  | 73 => ⟨S4x8192x512, .f32⟩
  | 74 => ⟨S4x8192x512, .f32⟩
  | 75 => ⟨S4x8192x512, .f32⟩
  | 76 => ⟨S_, .f32⟩
  | 77 => ⟨S4x8192x512, .f32⟩
  | 78 => ⟨S4x8192x512, .f32⟩
  | 79 => ⟨S_, .f32⟩
  | 80 => ⟨S4x8192x512, .f32⟩
  | 81 => ⟨S4x8192x512, .f32⟩
  | 82 => ⟨S4x8192x512, .f32⟩
  | 83 => ⟨S_, .f32⟩
  | 84 => ⟨S4x8192x512, .f32⟩
  | 85 => ⟨S4x8192x512, .f32⟩
  | 86 => ⟨S4x8192x512, .f32⟩
  | 87 => ⟨S_, .f32⟩
  | 88 => ⟨S4x8192x512, .f32⟩
  | 89 => ⟨S4x8192x512, .f32⟩
  | 90 => ⟨S_, .i32⟩
  | 91 => ⟨S4x8192x512, .i32⟩
  | 92 => ⟨S4x8192x512, .i32⟩
  | 93 => ⟨S_, .i32⟩
  | 94 => ⟨S4x8192x512, .i32⟩
  | 95 => ⟨S4x8192x512, .i1⟩
  | 96 => ⟨S_, .i32⟩
  | 97 => ⟨S4x8192x512, .i32⟩
  | 98 => ⟨S4x8192x512, .i1⟩
  | 99 => ⟨S_, .i32⟩
  | 100 => ⟨S4x8192x512, .i32⟩
  | 101 => ⟨S4x8192x512, .i1⟩
  | 102 => ⟨S4x8192x512, .f32⟩
  | 103 => ⟨S4x8192x512, .f32⟩
  | 104 => ⟨S4x8192x512, .f32⟩
  | 105 => ⟨S4x8192x512, .f32⟩
  | 106 => ⟨S4x8192x512, .f32⟩
  | 107 => ⟨S_, .i32⟩
  | 108 => ⟨S4x8192x512, .i32⟩
  | 109 => ⟨S4x8192x512, .i1⟩
  | 110 => ⟨S_, .i32⟩
  | 111 => ⟨S4x8192x512, .i32⟩
  | 112 => ⟨S4x8192x512, .i1⟩
  | 113 => ⟨S4x8192x512, .f32⟩
  | 114 => ⟨S_, .i32⟩
  | 115 => ⟨S4x8192x512, .i32⟩
  | 116 => ⟨S4x8192x512, .i1⟩
  | 117 => ⟨S4x8192x512, .f32⟩
  | 118 => ⟨S4x8192x512, .f32⟩
  | 119 => ⟨S4x8192x512, .f32⟩
  | 120 => ⟨S4x8192x512, .f32⟩
  | 121 => ⟨S4x8192x512, .f32⟩
  | 122 => ⟨S4x8192x512, .f32⟩
  | 123 => ⟨S4x8192x512, .f32⟩
  | 124 => ⟨S4x8192x512, .f32⟩
  | 125 => ⟨S4x8192x512, .f32⟩
  | 126 => ⟨S4x8192x512, .f32⟩
  | 127 => ⟨S4x8192x512, .f32⟩
  | _ => ⟨S4x8192x512, .f32⟩

abbrev hbmTy0_2 (i : Nat) : BufTy := match i % 128 with
  | 0 => ⟨S4x8192x512, .f32⟩
  | 1 => ⟨S4x8192x2048, .f32⟩
  | 2 => ⟨S_, .f32⟩
  | 3 => ⟨S4x8192, .f32⟩
  | 4 => ⟨S4x8192x1, .f32⟩
  | 5 => ⟨S_, .f32⟩
  | 6 => ⟨S4x8192x1, .f32⟩
  | 7 => ⟨S4x8192x1, .f32⟩
  | 8 => ⟨S_, .i32⟩
  | 9 => ⟨S_, .f32⟩
  | 10 => ⟨S4x8192, .f32⟩
  | 11 => ⟨S4x8192x1, .f32⟩
  | 12 => ⟨S_, .f32⟩
  | 13 => ⟨S4x8192x1, .f32⟩
  | 14 => ⟨S4x8192x1, .f32⟩
  | 15 => ⟨S4x8192x2048, .f32⟩
  | 16 => ⟨S4x8192x2048, .f32⟩
  | 17 => ⟨S4x8192x2048, .f32⟩
  | 18 => ⟨S_, .f32⟩
  | 19 => ⟨S_, .f32⟩
  | 20 => ⟨S_, .f32⟩
  | 21 => ⟨S_, .f32⟩
  | 22 => ⟨S4x8192, .f32⟩
  | 23 => ⟨S4x8192x1, .f32⟩
  | 24 => ⟨S4x8192x1, .f32⟩
  | 25 => ⟨S4x8192x1, .f32⟩
  | 26 => ⟨S_, .f32⟩
  | 27 => ⟨S_, .i1⟩
  | 28 => ⟨S_, .f32⟩
  | 29 => ⟨S_, .f32⟩
  | 30 => ⟨S4x8192x1, .f32⟩
  | 31 => ⟨S4x8192x1, .f32⟩
  | 32 => ⟨S4x8192x2048, .f32⟩
  | 33 => ⟨S4x8192x2048, .f32⟩
  | 34 => ⟨S_, .f32⟩
  | 35 => ⟨S4x8192x1, .f32⟩
  | 36 => ⟨S4x8192x1, .f32⟩
  | 37 => ⟨S4x8192x1, .f32⟩
  | 38 => ⟨S4x8192x2048, .f32⟩
  | 39 => ⟨S4x8192x2048, .f32⟩
  | 40 => ⟨S1x1x2048, .f32⟩
  | 41 => ⟨S4x8192x2048, .f32⟩
  | 42 => ⟨S4x8192x2048, .f32⟩
  | 43 => ⟨S1x1x2048, .f32⟩
  | 44 => ⟨S4x8192x2048, .f32⟩
  | 45 => ⟨S4x8192x2048, .f32⟩
  | 46 => ⟨S4x8192x1024, .f32⟩
  | 47 => ⟨S1x1x1024, .f32⟩
  | 48 => ⟨S4x8192x1024, .f32⟩
  | 49 => ⟨S4x8192x1024, .f32⟩
  | 50 => ⟨S4x8192x1024, .f32⟩
  | 51 => ⟨S4x8192x1024, .f32⟩
  | 52 => ⟨S_, .f32⟩
  | 53 => ⟨S4x8192x1024, .f32⟩
  | 54 => ⟨S4x8192x1024, .f32⟩
  | 55 => ⟨S4x8192x1024, .f32⟩
  | 56 => ⟨S_, .f32⟩
  | 57 => ⟨S4x8192x1024, .f32⟩
  | 58 => ⟨S4x8192x1024, .f32⟩
  | 59 => ⟨S4x8192x1024, .f32⟩
  | 60 => ⟨S_, .f32⟩
  | 61 => ⟨S4x8192x1024, .f32⟩
  | 62 => ⟨S4x8192x1024, .f32⟩
  | 63 => ⟨S_, .f32⟩
  | 64 => ⟨S4x8192x1024, .f32⟩
  | 65 => ⟨S4x8192x1024, .f32⟩
  | 66 => ⟨S4x8192x1024, .f32⟩
  | 67 => ⟨S4x8192x512, .f32⟩
  | 68 => ⟨S4x8192x512, .f32⟩
  | 69 => ⟨S1x1x512, .f32⟩
  | 70 => ⟨S4x8192x512, .f32⟩
  | 71 => ⟨S4x8192x512, .f32⟩
  | _ => ⟨S4x8192x512, .f32⟩

abbrev hbmTy (i : Nat) : BufTy := match i / 128 with
  | 0 => hbmTy0_0 i
  | 1 => hbmTy0_1 i
  | 2 => hbmTy0_2 i
  | _ => ⟨S4x8192x512, .f32⟩

abbrev bufTy : (tb : Table) → Fin (tcTables nBuf tb) → BufTy
  | .hbm, ⟨i, _⟩ => hbmTy i
  | _, _ => ⟨S4x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst : Ref sig .tc := ⟨.hbm, 28, rfl⟩
abbrev main_v10 : Ref sig .tc := ⟨.hbm, 29, rfl⟩
abbrev main_v11 : Ref sig .tc := ⟨.hbm, 30, rfl⟩
abbrev main_cst_0 : Ref sig .tc := ⟨.hbm, 31, rfl⟩
abbrev main_v12 : Ref sig .tc := ⟨.hbm, 32, rfl⟩
abbrev main_v13 : Ref sig .tc := ⟨.hbm, 33, rfl⟩
abbrev main_cst_1 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_2 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_3 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_4 : Ref sig .tc := ⟨.hbm, 51, rfl⟩
abbrev main_v28 : Ref sig .tc := ⟨.hbm, 52, rfl⟩
abbrev main_v29 : Ref sig .tc := ⟨.hbm, 53, rfl⟩
abbrev main_cst_5 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_call0_call0_cst : Ref sig .tc := ⟨.hbm, 66, rfl⟩
abbrev main_call0_call0_v0 : Ref sig .tc := ⟨.hbm, 67, rfl⟩
abbrev main_v41 : Ref sig .tc := ⟨.hbm, 68, rfl⟩
abbrev main_v42 : Ref sig .tc := ⟨.hbm, 69, rfl⟩
abbrev main_cst_6 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_7 : Ref sig .tc := ⟨.hbm, 76, rfl⟩
abbrev main_v48 : Ref sig .tc := ⟨.hbm, 77, rfl⟩
abbrev main_v49 : Ref sig .tc := ⟨.hbm, 78, rfl⟩
abbrev main_cst_8 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_9 : Ref sig .tc := ⟨.hbm, 88, rfl⟩
abbrev main_v58 : Ref sig .tc := ⟨.hbm, 89, rfl⟩
abbrev main_v59 : Ref sig .tc := ⟨.hbm, 90, rfl⟩
abbrev main_cst_10 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_11 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_cst_12 : Ref sig .tc := ⟨.hbm, 103, rfl⟩
abbrev main_v70 : Ref sig .tc := ⟨.hbm, 104, rfl⟩
abbrev main_v71 : Ref sig .tc := ⟨.hbm, 105, rfl⟩
abbrev main_cst_13 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_cst_14 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_cst_15 : Ref sig .tc := ⟨.hbm, 114, rfl⟩
abbrev main_v78 : Ref sig .tc := ⟨.hbm, 115, rfl⟩
abbrev main_v79 : Ref sig .tc := ⟨.hbm, 116, rfl⟩
abbrev main_c : Ref sig .tc := ⟨.hbm, 117, rfl⟩
abbrev main_v80 : Ref sig .tc := ⟨.hbm, 118, rfl⟩
abbrev main_v81 : Ref sig .tc := ⟨.hbm, 119, rfl⟩
abbrev main_c_16 : Ref sig .tc := ⟨.hbm, 120, rfl⟩
abbrev main_v82 : Ref sig .tc := ⟨.hbm, 121, rfl⟩
abbrev main_v83 : Ref sig .tc := ⟨.hbm, 122, rfl⟩
abbrev main_c_17 : Ref sig .tc := ⟨.hbm, 123, rfl⟩
abbrev main_v84 : Ref sig .tc := ⟨.hbm, 124, rfl⟩
abbrev main_v85 : Ref sig .tc := ⟨.hbm, 125, rfl⟩
abbrev main_c_18 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_c_19 : Ref sig .tc := ⟨.hbm, 134, rfl⟩
abbrev main_v93 : Ref sig .tc := ⟨.hbm, 135, rfl⟩
abbrev main_v94 : Ref sig .tc := ⟨.hbm, 136, rfl⟩
abbrev main_c_20 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_c_21 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_call8_call0_cst : Ref sig .tc := ⟨.hbm, 150, rfl⟩
abbrev main_call8_call0_v0 : Ref sig .tc := ⟨.hbm, 151, rfl⟩
abbrev main_v106 : Ref sig .tc := ⟨.hbm, 152, rfl⟩
abbrev main_v107 : Ref sig .tc := ⟨.hbm, 153, rfl⟩
abbrev main_call9_call0_cst : Ref sig .tc := ⟨.hbm, 154, rfl⟩
abbrev main_call9_call0_v0 : Ref sig .tc := ⟨.hbm, 155, rfl⟩
abbrev main_v108 : Ref sig .tc := ⟨.hbm, 156, rfl⟩
abbrev main_call10_call0_cst : Ref sig .tc := ⟨.hbm, 157, rfl⟩
abbrev main_call10_call0_v0 : Ref sig .tc := ⟨.hbm, 158, rfl⟩
abbrev main_v109 : Ref sig .tc := ⟨.hbm, 159, rfl⟩
abbrev main_cst_22 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_cst_23 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_cst_24 : Ref sig .tc := ⟨.hbm, 177, rfl⟩
abbrev main_v125 : Ref sig .tc := ⟨.hbm, 178, rfl⟩
abbrev main_v126 : Ref sig .tc := ⟨.hbm, 179, rfl⟩
abbrev main_cst_25 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_cst_26 : Ref sig .tc := ⟨.hbm, 189, rfl⟩
abbrev main_v135 : Ref sig .tc := ⟨.hbm, 190, rfl⟩
abbrev main_v136 : Ref sig .tc := ⟨.hbm, 191, rfl⟩
abbrev main_cst_27 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_cst_28 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_cst_29 : Ref sig .tc := ⟨.hbm, 204, rfl⟩
abbrev main_v147 : Ref sig .tc := ⟨.hbm, 205, rfl⟩
abbrev main_v148 : Ref sig .tc := ⟨.hbm, 206, rfl⟩
abbrev main_cst_30 : Ref sig .tc := ⟨.hbm, 207, rfl⟩
abbrev main_v149 : Ref sig .tc := ⟨.hbm, 208, rfl⟩
abbrev main_v150 : Ref sig .tc := ⟨.hbm, 209, rfl⟩
abbrev main_v151 : Ref sig .tc := ⟨.hbm, 210, rfl⟩
abbrev main_cst_31 : Ref sig .tc := ⟨.hbm, 211, rfl⟩
abbrev main_v152 : Ref sig .tc := ⟨.hbm, 212, rfl⟩
abbrev main_v153 : Ref sig .tc := ⟨.hbm, 213, rfl⟩
abbrev main_v154 : Ref sig .tc := ⟨.hbm, 214, rfl⟩
abbrev main_cst_32 : Ref sig .tc := ⟨.hbm, 215, rfl⟩
abbrev main_v155 : Ref sig .tc := ⟨.hbm, 216, rfl⟩
abbrev main_v156 : Ref sig .tc := ⟨.hbm, 217, rfl⟩
abbrev main_c_33 : Ref sig .tc := ⟨.hbm, 218, rfl⟩
abbrev main_v157 : Ref sig .tc := ⟨.hbm, 219, rfl⟩
abbrev main_v158 : Ref sig .tc := ⟨.hbm, 220, rfl⟩
abbrev main_c_34 : Ref sig .tc := ⟨.hbm, 221, rfl⟩
abbrev main_v159 : Ref sig .tc := ⟨.hbm, 222, rfl⟩
abbrev main_v160 : Ref sig .tc := ⟨.hbm, 223, rfl⟩
abbrev main_c_35 : Ref sig .tc := ⟨.hbm, 224, rfl⟩
abbrev main_v161 : Ref sig .tc := ⟨.hbm, 225, rfl⟩
abbrev main_v162 : Ref sig .tc := ⟨.hbm, 226, rfl⟩
abbrev main_c_36 : Ref sig .tc := ⟨.hbm, 227, rfl⟩
abbrev main_v163 : Ref sig .tc := ⟨.hbm, 228, rfl⟩
abbrev main_v164 : Ref sig .tc := ⟨.hbm, 229, rfl⟩
abbrev main_v165 : Ref sig .tc := ⟨.hbm, 230, rfl⟩
abbrev main_v166 : Ref sig .tc := ⟨.hbm, 231, rfl⟩
abbrev main_v167 : Ref sig .tc := ⟨.hbm, 232, rfl⟩
abbrev main_v168 : Ref sig .tc := ⟨.hbm, 233, rfl⟩
abbrev main_v169 : Ref sig .tc := ⟨.hbm, 234, rfl⟩
abbrev main_c_37 : Ref sig .tc := ⟨.hbm, 235, rfl⟩
abbrev main_v170 : Ref sig .tc := ⟨.hbm, 236, rfl⟩
abbrev main_v171 : Ref sig .tc := ⟨.hbm, 237, rfl⟩
abbrev main_c_38 : Ref sig .tc := ⟨.hbm, 238, rfl⟩
abbrev main_v172 : Ref sig .tc := ⟨.hbm, 239, rfl⟩
abbrev main_v173 : Ref sig .tc := ⟨.hbm, 240, rfl⟩
abbrev main_v174 : Ref sig .tc := ⟨.hbm, 241, rfl⟩
abbrev main_c_39 : Ref sig .tc := ⟨.hbm, 242, rfl⟩
abbrev main_v175 : Ref sig .tc := ⟨.hbm, 243, rfl⟩
abbrev main_v176 : Ref sig .tc := ⟨.hbm, 244, rfl⟩
abbrev main_v177 : Ref sig .tc := ⟨.hbm, 245, rfl⟩
abbrev main_v178 : Ref sig .tc := ⟨.hbm, 246, rfl⟩
abbrev main_v179 : Ref sig .tc := ⟨.hbm, 247, rfl⟩
abbrev main_v180 : Ref sig .tc := ⟨.hbm, 248, rfl⟩
abbrev main_v181 : Ref sig .tc := ⟨.hbm, 249, rfl⟩
abbrev main_v182 : Ref sig .tc := ⟨.hbm, 250, rfl⟩
abbrev main_v183 : Ref sig .tc := ⟨.hbm, 251, rfl⟩
abbrev main_v184 : Ref sig .tc := ⟨.hbm, 252, rfl⟩
abbrev main_v185 : Ref sig .tc := ⟨.hbm, 253, rfl⟩
abbrev main_v186 : Ref sig .tc := ⟨.hbm, 254, rfl⟩
abbrev main_v187 : Ref sig .tc := ⟨.hbm, 255, rfl⟩
abbrev main_v188 : Ref sig .tc := ⟨.hbm, 256, rfl⟩
abbrev main_v189 : Ref sig .tc := ⟨.hbm, 257, rfl⟩
abbrev main_cst_40 : Ref sig .tc := ⟨.hbm, 258, rfl⟩
abbrev main_v190 : Ref sig .tc := ⟨.hbm, 259, rfl⟩
abbrev main_v191 : Ref sig .tc := ⟨.hbm, 260, rfl⟩
abbrev main_cst_41 : Ref sig .tc := ⟨.hbm, 261, rfl⟩
abbrev main_v192 : Ref sig .tc := ⟨.hbm, 262, rfl⟩
abbrev main_v193 : Ref sig .tc := ⟨.hbm, 263, rfl⟩
abbrev main_c_42 : Ref sig .tc := ⟨.hbm, 264, rfl⟩
abbrev main_call18_cst : Ref sig .tc := ⟨.hbm, 265, rfl⟩
abbrev main_call18_v0 : Ref sig .tc := ⟨.hbm, 266, rfl⟩
abbrev main_call18_v1 : Ref sig .tc := ⟨.hbm, 267, rfl⟩
abbrev main_call18_cst_0 : Ref sig .tc := ⟨.hbm, 268, rfl⟩
abbrev main_call18_v2 : Ref sig .tc := ⟨.hbm, 269, rfl⟩
abbrev main_call18_v3 : Ref sig .tc := ⟨.hbm, 270, rfl⟩
abbrev main_call18_v4 : Ref sig .tc := ⟨.hbm, 271, rfl⟩
abbrev main_call18_v5 : Ref sig .tc := ⟨.hbm, 272, rfl⟩
abbrev main_call18_v6 : Ref sig .tc := ⟨.hbm, 273, rfl⟩
abbrev main_call18_v7 : Ref sig .tc := ⟨.hbm, 274, rfl⟩
abbrev main_call18_cst_1 : Ref sig .tc := ⟨.hbm, 275, rfl⟩
abbrev main_call18_v8 : Ref sig .tc := ⟨.hbm, 276, rfl⟩
abbrev main_call18_cst_2 : Ref sig .tc := ⟨.hbm, 277, rfl⟩
abbrev main_call18_v9 : Ref sig .tc := ⟨.hbm, 278, rfl⟩
abbrev main_call18_v10 : Ref sig .tc := ⟨.hbm, 279, rfl⟩
abbrev main_call18_v11 : Ref sig .tc := ⟨.hbm, 280, rfl⟩
abbrev main_call18_v12 : Ref sig .tc := ⟨.hbm, 281, rfl⟩
abbrev main_call18_cst_3 : Ref sig .tc := ⟨.hbm, 282, rfl⟩
abbrev main_call18_v13 : Ref sig .tc := ⟨.hbm, 283, rfl⟩
abbrev main_call18_cst_4 : Ref sig .tc := ⟨.hbm, 284, rfl⟩
abbrev main_call18_call0_v0 : Ref sig .tc := ⟨.hbm, 285, rfl⟩
abbrev main_call18_call0_v1 : Ref sig .tc := ⟨.hbm, 286, rfl⟩
abbrev main_v194 : Ref sig .tc := ⟨.hbm, 287, rfl⟩
abbrev main_v195 : Ref sig .tc := ⟨.hbm, 288, rfl⟩
abbrev main_v196 : Ref sig .tc := ⟨.hbm, 289, rfl⟩
abbrev main_cst_43 : Ref sig .tc := ⟨.hbm, 290, rfl⟩
abbrev main_v197 : Ref sig .tc := ⟨.hbm, 291, rfl⟩
abbrev main_v198 : Ref sig .tc := ⟨.hbm, 292, rfl⟩
abbrev main_v199 : Ref sig .tc := ⟨.hbm, 293, rfl⟩
abbrev main_v200 : Ref sig .tc := ⟨.hbm, 294, rfl⟩
abbrev main_v201 : Ref sig .tc := ⟨.hbm, 295, rfl⟩
abbrev main_v202 : Ref sig .tc := ⟨.hbm, 296, rfl⟩
abbrev main_v203 : Ref sig .tc := ⟨.hbm, 297, rfl⟩
abbrev main_v204 : Ref sig .tc := ⟨.hbm, 298, rfl⟩
abbrev main_v205 : Ref sig .tc := ⟨.hbm, 299, rfl⟩
abbrev main_v206 : Ref sig .tc := ⟨.hbm, 300, rfl⟩
abbrev main_v207 : Ref sig .tc := ⟨.hbm, 301, rfl⟩
abbrev main_v208 : Ref sig .tc := ⟨.hbm, 302, rfl⟩
abbrev main_v209 : Ref sig .tc := ⟨.hbm, 303, rfl⟩
abbrev main_v210 : Ref sig .tc := ⟨.hbm, 304, rfl⟩
abbrev main_v211 : Ref sig .tc := ⟨.hbm, 305, rfl⟩
abbrev main_v212 : Ref sig .tc := ⟨.hbm, 306, rfl⟩
abbrev main_v213 : Ref sig .tc := ⟨.hbm, 307, rfl⟩
abbrev main_cst_44 : Ref sig .tc := ⟨.hbm, 308, rfl⟩
abbrev main_v214 : Ref sig .tc := ⟨.hbm, 309, rfl⟩
abbrev main_v215 : Ref sig .tc := ⟨.hbm, 310, rfl⟩
abbrev main_v216 : Ref sig .tc := ⟨.hbm, 311, rfl⟩
abbrev main_cst_45 : Ref sig .tc := ⟨.hbm, 312, rfl⟩
abbrev main_v217 : Ref sig .tc := ⟨.hbm, 313, rfl⟩
abbrev main_v218 : Ref sig .tc := ⟨.hbm, 314, rfl⟩
abbrev main_v219 : Ref sig .tc := ⟨.hbm, 315, rfl⟩
abbrev main_cst_46 : Ref sig .tc := ⟨.hbm, 316, rfl⟩
abbrev main_v220 : Ref sig .tc := ⟨.hbm, 317, rfl⟩
abbrev main_v221 : Ref sig .tc := ⟨.hbm, 318, rfl⟩
abbrev main_cst_47 : Ref sig .tc := ⟨.hbm, 319, rfl⟩
abbrev main_v222 : Ref sig .tc := ⟨.hbm, 320, rfl⟩
abbrev main_v223 : Ref sig .tc := ⟨.hbm, 321, rfl⟩
abbrev main_v224 : Ref sig .tc := ⟨.hbm, 322, rfl⟩
abbrev main_v225 : Ref sig .tc := ⟨.hbm, 323, rfl⟩
abbrev main_v226 : Ref sig .tc := ⟨.hbm, 324, rfl⟩
abbrev main_v227 : Ref sig .tc := ⟨.hbm, 325, rfl⟩
abbrev main_v228 : Ref sig .tc := ⟨.hbm, 326, rfl⟩
abbrev main_v229 : Ref sig .tc := ⟨.hbm, 327, rfl⟩

abbrev nD : Nat := 1
abbrev τ : Topo := Topo.v7x

variable {F : FTy → Type} [FloatOps F]
-- ==== Proof.Chunk.lean ====
module

public import proofs.«01_k».proof.Proof.Gen.KernelIdeal.Skeleton

@[expose] public section

noncomputable section

/-! One sub-chunk of the kernel, 512 rows of one batch, as vector functions: what the rows of the result are and what
    the four running totals become. The kernel's body runs it four times in a row; `Cert.Chunk.out` and `Cert.Chunk.next` are
    its two results, from the sub-chunk of `x`, the weights and the totals so far. -/

namespace Cert.Chunk

open Idealize.ShloMosaic Idealize.SL.Sem Cert.KernelIdeal Cert.KernelIdeal.Gen

variable {F : FTy → Type} [FloatOps F] [Named F]

/-- The blocks that every grid point reads whole: the triangle of ones, the weights and the biases. -/
structure Weights (F : FTy → Type) where
  tri : Vec F S512x512 .bf16
  wOm : Vec F S512x512 .bf16
  bOm : Vec F S1x512 .f32
  wP1 : Vec F S512x512 .bf16
  bP1 : Vec F S1x512 .f32
  wP2 : Vec F S512x512 .bf16
  bP2 : Vec F S1x512 .f32
  scale : Vec F S1x512 .f32
  wMag : Vec F S512x512 .bf16
  bMag : Vec F S1x512 .f32
  wQ : Vec F S512x512 .bf16
  bQ : Vec F S1x512 .f32
  wO1a : Vec F S512x1024 .bf16
  wO1b : Vec F S512x1024 .bf16
  wO1c : Vec F S512x1024 .bf16
  wO1d : Vec F S512x1024 .bf16
  colsum : Vec F S1x1024 .f32
  hbias : Vec F S1x1024 .f32
  wO2 : Vec F S1024x512 .bf16
  bO2 : Vec F S1x512 .f32

/-- The four running totals that one sub-chunk hands to the next. -/
structure Totals (F : FTy → Type) where
  om : Vec F S1x512 .f32
  re : Vec F S1x512 .f32
  im : Vec F S1x512 .f32
  mag : Vec F S1x512 .f32

/-- A 512-column linear layer: the product with the weights, the bias added to each row. -/
def lin (a : FVec F S512x512 .bf16) (w : Vec F S512x512 .bf16) (b : Vec F S1x512 .f32) : FVec F S512x512 .f32 :=
  addf (matmul dot_S512x512_S512x512_S512x512_1_0_0_1_n_n none a (shapeCast S512x512 w shapeCasts_S512x512_S512x512)
      (constant S512x512 .f32 0x00000000#32))
    (broadcastTo S512x512 (shapeCast S1x512 b shapeCasts_S1x512_S1x512) broadcasts_S1x512_S512x512)

/-- The kernel's gelu, elementwise: `t / (1 + exp (-(t * (a + c * t * t))))`. -/
def gelu {s : Shape} (t : FVec F s .f32) : FVec F s .f32 :=
  divf t (addf (broadcast s (Scalar.ofBits .f32 0x3F800000#32))
    (exp (subf (broadcast s (Scalar.ofBits .f32 0x00000000#32))
      (mulf t (addf (broadcast s (Scalar.ofBits .f32 0x3FCC422A#32))
        (mulf (mulf (broadcast s (Named.named κ "gelu_cubic" 0x3D922279#32)) t) t))))))

/-- The number of quarter turns nearest to an angle. -/
def turns (p : FVec F S512x512 .f32) : IVec S512x512 32 :=
  fptosi 32 (roundeven (mulf p (broadcast S512x512 (Scalar.ofBits .f32 0x3F22F983#32))))

/-- What is left of an angle when its quarter turns are taken off. -/
def rest (p : FVec F S512x512 .f32) : FVec F S512x512 .f32 :=
  subf (subf p (mulf (sitofp .f32 (turns p)) (broadcast S512x512 (Scalar.ofBits .f32 0x3FC90FDB#32))))
    (mulf (sitofp .f32 (turns p)) (broadcast S512x512 (Scalar.ofBits .f32 0xB33BBD2E#32)))

/-- The sine's polynomial at the rest of an angle. -/
def polS (p : FVec F S512x512 .f32) : FVec F S512x512 .f32 :=
  addf (mulf (mulf (subf (mulf (addf (mulf (broadcast S512x512 (Scalar.ofBits .f32 0xB94CA1F9#32)) (mulf (rest p) (rest p)))
    (broadcast S512x512 (Scalar.ofBits .f32 0x3C08839E#32))) (mulf (rest p) (rest p)))
    (broadcast S512x512 (Scalar.ofBits .f32 0x3E2AAAA3#32))) (mulf (rest p) (rest p))) (rest p)) (rest p)

/-- The cosine's polynomial at the rest of an angle. -/
def polC (p : FVec F S512x512 .f32) : FVec F S512x512 .f32 :=
  addf (mulf (subf (mulf (addf (mulf (broadcast S512x512 (Scalar.ofBits .f32 0xBAB6061A#32)) (mulf (rest p) (rest p)))
    (broadcast S512x512 (Scalar.ofBits .f32 0x3D2AAAA5#32))) (mulf (rest p) (rest p)))
    (broadcast S512x512 (Scalar.ofBits .f32 0x3F000000#32))) (mulf (rest p) (rest p)))
    (broadcast S512x512 (Scalar.ofBits .f32 0x3F800000#32))

/-- Whether the number of quarter turns is odd. -/
def odd (p : FVec F S512x512 .f32) : IVec S512x512 1 :=
  cmpi .ne (andi (turns p) (broadcast S512x512 1#32)) (broadcast S512x512 0#32)

/-- An array with its sign changed where a word's second bit is set. -/
def flip (k : IVec S512x512 32) (a : FVec F S512x512 .f32) : FVec F S512x512 .f32 :=
  select (cmpi .ne (andi k (broadcast S512x512 2#32)) (broadcast S512x512 0#32))
    (subf (broadcast S512x512 (Scalar.ofBits .f32 0x00000000#32)) a) a

/-- The kernel's sine. -/
def sinV (p : FVec F S512x512 .f32) : FVec F S512x512 .f32 := flip (turns p) (select (odd p) (polC p) (polS p))

/-- The kernel's cosine. -/
def cosV (p : FVec F S512x512 .f32) : FVec F S512x512 .f32 :=
  flip (addi (turns p) (broadcast S512x512 1#32)) (select (odd p) (polS p) (polC p))

/-- The sums of an array's columns up to each row, within the sub-chunk, by a product with the triangle, on top of a total. -/
def prefixV (W : Weights F) (v : Vec F S1x512 .f32) (a : FVec F S512x512 .f32) : FVec F S512x512 .f32 :=
  addf (matmul dot_S512x512_S512x512_S512x512_1_0_0_1_n_n none (shapeCast S512x512 W.tri shapeCasts_S512x512_S512x512)
      (truncf .bf16 a bitsLt_bf16_f32) (constant S512x512 .f32 0x00000000#32))
    (broadcastTo S512x512 v broadcasts_S1x512_S512x512)

/-- A total with the sums of an array's columns added. -/
def total (v : Vec F S1x512 .f32) (a : FVec F S512x512 .f32) : FVec F S1x512 .f32 :=
  addf v (shapeCast S1x512 (multiReduction .add [0] S512 a 0x00000000#32 reduces_S512x512_S512 (.inl rfl) rfl) shapeCasts_S512_S1x512)

/-- The sums of an array's rows, as a column. -/
def rowSum (a : FVec F S512x512 .f32) : FVec F S512x1 .f32 :=
  shapeCast S512x1 (multiReduction .add [1] S512 a 0x00000000#32 reduces_S512x512_S512_2 (.inl rfl) rfl) shapeCasts_S512_S512x1

variable (W : Weights F) (x : FVec F S512x512 .f32) (v : Totals F)

/-- The angular velocity of the sub-chunk's rows. -/
def omega : FVec F S512x512 .f32 := lin (truncf .bf16 x bitsLt_bf16_f32) W.wOm W.bOm

/-- The magnitude: five times the logistic function of a linear layer. -/
def mag : FVec F S512x512 .f32 :=
  mulf (logistic (lin (truncf .bf16 x bitsLt_bf16_f32) W.wMag W.bMag)) (broadcast S512x512 (Scalar.ofBits .f32 0x40A00000#32))
/-- The query's offset of the angle. -/
def qz : FVec F S512x512 .f32 := lin (truncf .bf16 x bitsLt_bf16_f32) W.wQ W.bQ

/-- The angle before the angular velocities are added: two linear layers with a gelu between them. -/
def phiInit : FVec F S512x512 .f32 :=
  lin (truncf .bf16 (gelu (lin (truncf .bf16 x bitsLt_bf16_f32) W.wP1 W.bP1)) bitsLt_bf16_f32) W.wP2 W.bP2
/-- The phase of each row. -/
def phi : FVec F S512x512 .f32 :=
  addf (phiInit W x) (mulf (prefixV W v.om (omega W x))
    (broadcastTo S512x512 (absf (shapeCast S1x512 W.scale shapeCasts_S1x512_S1x512)) broadcasts_S1x512_S512x512))
/-- The rows of `x` weighted by the magnitude. -/
def wc : FVec F S512x512 .f32 := mulf (mag W x) x

/-- What each row adds to the memory's real part. -/
def tr : FVec F S512x512 .f32 := mulf (wc W x) (cosV (phi W x v))

/-- What each row adds to the memory's imaginary part. -/
def ti : FVec F S512x512 .f32 := mulf (wc W x) (sinV (phi W x v))

/-- The reciprocal root of the magnitudes' sum. -/
def invSq : FVec F S512x512 .f32 :=
  rsqrt (addf (prefixV W v.mag (mag W x)) (broadcast S512x512 (Scalar.ofBits .f32 0x322BCC77#32)))
/-- The memory's real part, normalised. -/
def mr : FVec F S512x512 .f32 := mulf (prefixV W v.re (tr W x v)) (invSq W x v)

/-- The memory's imaginary part, normalised. -/
def mi : FVec F S512x512 .f32 := mulf (prefixV W v.im (ti W x v)) (invSq W x v)

/-- The angle at which the memory is read. -/
def phiQ : FVec F S512x512 .f32 := addf (phi W x v) (qz W x)

/-- The real part of what is read from the memory. -/
def retR : FVec F S512x512 .f32 :=
  addf (mulf (mr W x v) (cosV (phiQ W x v))) (mulf (mi W x v) (sinV (phiQ W x v)))
/-- The imaginary part of what is read from the memory. -/
def retI : FVec F S512x512 .f32 :=
  subf (mulf (mi W x v) (cosV (phiQ W x v))) (mulf (mr W x v) (sinV (phiQ W x v)))
/-- The context's first quarter: `x` times the cosine of the angle. -/
def p0 : FVec F S512x512 .f32 := mulf x (cosV (phi W x v))

/-- The context's second quarter: `x` times the sine of the angle. -/
def p1 : FVec F S512x512 .f32 := mulf x (sinV (phi W x v))

/-- The mean of the four arrays' rows. -/
def mean (a b c d : FVec F S512x512 .f32) : FVec F S512x1 .f32 :=
  mulf (addf (addf (addf (rowSum a) (rowSum b)) (rowSum c)) (rowSum d)) (broadcast S512x1 (Scalar.ofBits .f32 0x3A000000#32))
/-- The mean of the squares of the four arrays' rows. -/
def mean2 (a b c d : FVec F S512x512 .f32) : FVec F S512x1 .f32 := mean (mulf a a) (mulf b b) (mulf c c) (mulf d d)
/-- One over the standard deviation of the four arrays' rows. -/
def invStd (a b c d : FVec F S512x512 .f32) : FVec F S512x1 .f32 :=
  rsqrt (addf (subf (mean2 a b c d) (mulf (mean a b c d) (mean a b c d))) (broadcast S512x1 (Scalar.ofBits .f32 0x3727C5AC#32)))
/-- The product of 512 rows with a quarter of the first output layer's weights. -/
def quarter (a : FVec F S512x512 .f32) (w : Vec F S512x1024 .bf16) : FVec F S512x1024 .f32 :=
  matmul dot_S512x512_S512x1024_S512x1024_1_0_0_1_n_n none (truncf .bf16 a bitsLt_bf16_f32)
    (shapeCast S512x1024 w shapeCasts_S512x1024_S512x1024) (constant S512x1024 .f32 0x00000000#32)
/-- The first output layer with the layer norm folded in. -/
def pre (a b c d : FVec F S512x512 .f32) : FVec F S512x1024 .f32 :=
  addf (subf (mulf (addf (addf (addf (quarter a W.wO1a) (quarter b W.wO1b)) (quarter c W.wO1c)) (quarter d W.wO1d))
        (broadcastTo S512x1024 (invStd a b c d) broadcasts_S512x1_S512x1024))
      (mulf (broadcastTo S512x1024 (mulf (mean a b c d) (invStd a b c d)) broadcasts_S512x1_S512x1024)
        (broadcastTo S512x1024 (shapeCast S1x1024 W.colsum shapeCasts_S1x1024_S1x1024) broadcasts_S1x1024_S512x1024)))
    (broadcastTo S512x1024 (shapeCast S1x1024 W.hbias shapeCasts_S1x1024_S1x1024) broadcasts_S1x1024_S512x1024)
/-- The second output layer and the residual. -/
def last (h : FVec F S512x1024 .f32) : FVec F S512x512 .f32 :=
  addf (addf x (matmul dot_S512x1024_S1024x512_S512x512_1_0_0_1_n_n none (truncf .bf16 (gelu h) bitsLt_bf16_f32)
      (shapeCast S1024x512 W.wO2 shapeCasts_S1024x512_S1024x512) (constant S512x512 .f32 0x00000000#32)))
    (broadcastTo S512x512 (shapeCast S1x512 W.bO2 shapeCasts_S1x512_S1x512) broadcasts_S1x512_S512x512)

/-- The sub-chunk's rows of the result. -/
def out : FVec F S512x512 .f32 := last W x (pre W (p0 W x v) (p1 W x v) (retR W x v) (retI W x v))

/-- The totals after the sub-chunk. -/
def next : Totals F where
  om := total v.om (omega W x)
  re := total v.re (tr W x v)
  im := total v.im (ti W x v)
  mag := total v.mag (mag W x)

end Cert.Chunk

end
-- ==== Proof.Link.lean ====
module

public import proofs.«01_k».proof.Proof.Gen.KernelIdeal.Frame
public import proofs.«01_k».proof.Proof.Chunk
public import Idealize.ShloMosaic.Lib.Pipeline.Value
public import Idealize.ShloMosaic.Lib.Pointwise

@[expose] public section

noncomputable section

/-! What one grid point leaves in the result's block and in the four totals, in terms of `Cert.Chunk`: the point's four
    sub-chunks one after another. -/

namespace Cert.Link

open Idealize.ShloMosaic Idealize.SL.Sem Cert.KernelIdeal Cert.KernelIdeal.Gen Cert.Chunk

variable {F : FTy → Type} [FloatOps F] [Named F]

/-- 512 rows of a point's block of `x`, from row `o` on. -/
def rowsAt (x : Vec F S1x2048x512 .f32) (o : ℕ) (h : ∀ a, (![0, o, 0] : Fin 3 → ℕ) a + S1x512x512.size a ≤ S1x2048x512.size a) :
    FVec F S512x512 .f32 :=
  shapeCast S512x512 (View.ld x (Rect.unit (s := S1x2048x512) ![0, o, 0] S1x512x512.size h)) shapeCasts_S1x512x512_S512x512

/-- 512 rows of the first output layer's weights, from row `o` on. -/
def quarterAt (w : Vec F S2048x1024 .bf16) (o : ℕ) (h : ∀ a, (![o, 0] : Fin 2 → ℕ) a + S512x1024.size a ≤ S2048x1024.size a) :
    Vec F S512x1024 .bf16 :=
  View.ld w (Rect.unit (s := S2048x1024) ![o, 0] S512x1024.size h)

variable (m : (ℓ : Loc nD τ sig) → Buf (Elt F) ℓ) (c : Dev nD) (t : Fin cfg0.N)

/-- The weights that a grid point reads. -/
def weights : Weights F where
  tri := iblk m c 0 t
  wOm := iblk m c 2 t
  bOm := iblk m c 3 t
  wP1 := iblk m c 4 t
  bP1 := iblk m c 5 t
  wP2 := iblk m c 6 t
  bP2 := iblk m c 7 t
  scale := iblk m c 8 t
  wMag := iblk m c 9 t
  bMag := iblk m c 10 t
  wQ := iblk m c 11 t
  bQ := iblk m c 12 t
  wO1a := quarterAt (iblk m c 13 t) 0 inb_S2048x1024_S512x1024_0_0
  wO1b := quarterAt (iblk m c 13 t) 512 inb_S2048x1024_S512x1024_512_0
  wO1c := quarterAt (iblk m c 13 t) 1024 inb_S2048x1024_S512x1024_1024_0
  wO1d := quarterAt (iblk m c 13 t) 1536 inb_S2048x1024_S512x1024_1536_0
  colsum := iblk m c 14 t
  hbias := iblk m c 15 t
  wO2 := iblk m c 16 t
  bO2 := iblk m c 17 t

/-- The block's first 512 rows. -/
def rows0 : FVec F S512x512 .f32 := rowsAt (iblk m c 1 t) 0 inb_S1x2048x512_S1x512x512_0_0_0

/-- The block's second 512 rows. -/
def rows1 : FVec F S512x512 .f32 := rowsAt (iblk m c 1 t) 512 inb_S1x2048x512_S1x512x512_0_512_0

/-- The block's third 512 rows. -/
def rows2 : FVec F S512x512 .f32 := rowsAt (iblk m c 1 t) 1024 inb_S1x2048x512_S1x512x512_0_1024_0

/-- The block's last 512 rows. -/
def rows3 : FVec F S512x512 .f32 := rowsAt (iblk m c 1 t) 1536 inb_S1x2048x512_S1x512x512_0_1536_0

variable (v : Totals F)

/-- The totals after one, two, three and four of the point's sub-chunks. -/
def tot1 : Totals F := next (weights m c t) (rows0 m c t) v

/-- The totals after the second sub-chunk. -/
def tot2 : Totals F := next (weights m c t) (rows1 m c t) (tot1 m c t v)

/-- The totals after the third sub-chunk. -/
def tot3 : Totals F := next (weights m c t) (rows2 m c t) (tot2 m c t v)

/-- The totals after the fourth sub-chunk. -/
def tot4 : Totals F := next (weights m c t) (rows3 m c t) (tot3 m c t v)

/-- The totals that a batch starts from. -/
def zeros : Totals F where
  om := k0_pay3
  re := k0_pay4
  im := k0_pay5
  mag := k0_pay6

/-- The result's block: the four sub-chunks' rows put in their places. -/
def block : Vec F S1x2048x512 .f32 :=
  View.canon (Val := Elt F) [
    ⟨Rect.unit (s := S1x2048x512) ![0, 1536, 0] S1x512x512.size inb_S1x2048x512_S1x512x512_0_1536_0,
      shapeCast S1x512x512 (out (weights m c t) (rows3 m c t) (tot3 m c t v)) shapeCasts_S512x512_S1x512x512⟩,
    ⟨Rect.unit (s := S1x2048x512) ![0, 1024, 0] S1x512x512.size inb_S1x2048x512_S1x512x512_0_1024_0,
      shapeCast S1x512x512 (out (weights m c t) (rows2 m c t) (tot2 m c t v)) shapeCasts_S512x512_S1x512x512⟩,
    ⟨Rect.unit (s := S1x2048x512) ![0, 512, 0] S1x512x512.size inb_S1x2048x512_S1x512x512_0_512_0,
      shapeCast S1x512x512 (out (weights m c t) (rows1 m c t) (tot1 m c t v)) shapeCasts_S512x512_S1x512x512⟩,
    ⟨Rect.unit (s := S1x2048x512) ![0, 0, 0] S1x512x512.size inb_S1x2048x512_S1x512x512_0_0_0,
      shapeCast S1x512x512 (out (weights m c t) (rows0 m c t) v) shapeCasts_S512x512_S1x512x512⟩]

/-- A pair of zeros is zero everywhere. -/
theorem zero2 : (![0, 0] : Fin 2 → ℕ) = fun _ => 0 := by funext a; fin_cases a <;> rfl

/-- What the grid point before leaves in the four totals. -/
def prev (n : ℕ) (h : n < cfg0.N) : Totals F where
  om := (outsAt0 m c n h).2.1
  re := (outsAt0 m c n h).2.2.1
  im := (outsAt0 m c n h).2.2.2.1
  mag := (outsAt0 m c n h).2.2.2.2

set_option maxHeartbeats 2000000 in
/-- The first point of a batch: the block of the result, from totals of zero. -/
theorem block_A (h0 : t.val % 4 = 0) : (outsAt0 m c t.val t.isLt).1 = block m c t zeros := by
  rw [outsAt0_A m c t h0]
  dsimp only
  unfold out0_A_18
  refine (View.read_writes_eq_canon _ _ _ ?_).trans ?_
  · intro y; apply cover0_A_18
  unfold kernelRun0_A
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    (hs0_9 t).read_unread, (hs0_10 t).read_unread, (hs0_11 t).read_unread, (hs0_12 t).read_unread, (hs0_13 t).read_unread,
    (hs0_14 t).read_unread, (hs0_15 t).read_unread, (hs0_16 t).read_unread, (hs0_17 t).read_unread, (Memref.isWhole_whole _).read_unread,
    View.ld_unit_zero (S := S512x512) zero2, View.ld_unit_zero (S := S1x512) zero2, View.ld_unit_zero (S := S1x1024) zero2,
    View.ld_unit_zero (S := S1024x512) zero2, View.readCov_unit_zero (S := S1x512) _ zero2]
  dsimp only [block, out, tot4, tot3, tot2, tot1, next, last, pre, quarter, invStd, mean2, mean, p0, p1, retR, retI, phiQ, mr, mi, invSq, ti, tr,
    wc, phi, phiInit, qz, mag, omega, rowSum, total, prefixV, cosV, sinV, Chunk.flip, odd, polC, polS, rest, turns, gelu, lin,
    weights, rows0, rows1, rows2, rows3, zeros, rowsAt, quarterAt]
  refine congrArg View.canon (congrArg₂ List.cons ?_ (congrArg₂ List.cons ?_ (congrArg₂ List.cons ?_ (congrArg₂ List.cons ?_ rfl))))
  all_goals (unfold_payloads; dsimp only)

set_option maxHeartbeats 2000000 in
/-- Any other point: the block of the result, from the totals that the point before left. -/
theorem block_B (h0 : ¬t.val % 4 = 0) :
    (outsAt0 m c t.val t.isLt).1 = block m c t (prev m c (t.val - 1) (by have := t.isLt; omega)) := by
  unfold prev
  rw [outsAt0_B m c t h0]
  dsimp only
  unfold out0_B_18
  refine (View.read_writes_eq_canon _ _ _ ?_).trans ?_
  · intro y; apply cover0_B_18
  unfold kernelRun0_B
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    (hs0_9 t).read_unread, (hs0_10 t).read_unread, (hs0_11 t).read_unread, (hs0_12 t).read_unread, (hs0_13 t).read_unread,
    (hs0_14 t).read_unread, (hs0_15 t).read_unread, (hs0_16 t).read_unread, (hs0_17 t).read_unread, (Memref.isWhole_whole _).read_unread,
    View.ld_unit_zero (S := S512x512) zero2, View.ld_unit_zero (S := S1x512) zero2, View.ld_unit_zero (S := S1x1024) zero2,
    View.ld_unit_zero (S := S1024x512) zero2, View.readCov_unit_zero (S := S1x512) _ zero2]
  dsimp only [block, out, tot4, tot3, tot2, tot1, next, last, pre, quarter, invStd, mean2, mean, p0, p1, retR, retI, phiQ, mr, mi, invSq, ti, tr,
    wc, phi, phiInit, qz, mag, omega, rowSum, total, prefixV, cosV, sinV, Chunk.flip, odd, polC, polS, rest, turns, gelu, lin,
    weights, rows0, rows1, rows2, rows3, zeros, rowsAt, quarterAt]
  refine congrArg View.canon (congrArg₂ List.cons ?_ (congrArg₂ List.cons ?_ (congrArg₂ List.cons ?_ (congrArg₂ List.cons ?_ rfl))))
  all_goals (unfold_payloads; dsimp only)

/-- Two groups of totals with equal members are equal. -/
theorem totals_ext {a b : Totals F} (h1 : a.om = b.om) (h2 : a.re = b.re) (h3 : a.im = b.im) (h4 : a.mag = b.mag) : a = b := by
  cases a; cases b; simp_all

set_option maxHeartbeats 2000000 in
/-- The first point of a batch: the totals that it leaves. -/
theorem totals_A (h0 : t.val % 4 = 0) : prev m c t.val t.isLt = tot4 m c t zeros := by
  unfold prev
  rw [outsAt0_A m c t h0]
  refine totals_ext ?_ ?_ ?_ ?_
  all_goals dsimp only
  on_goal 1 => unfold sout0_A_0; refine (View.read_writes_eq_canon _ _ _ (by intro y; apply scover0_A_0)).trans ?_
  on_goal 2 => unfold sout0_A_1; refine (View.read_writes_eq_canon _ _ _ (by intro y; apply scover0_A_1)).trans ?_
  on_goal 3 => unfold sout0_A_2; refine (View.read_writes_eq_canon _ _ _ (by intro y; apply scover0_A_2)).trans ?_
  on_goal 4 => unfold sout0_A_3; refine (View.read_writes_eq_canon _ _ _ (by intro y; apply scover0_A_3)).trans ?_
  all_goals
    unfold kernelRun0_A
    dsimp only
    sl_unfold_words
    rw [View.canon_cons_unit_zero (S := S1x512) zero2]
    simp only [View.readAt_eq_ld, (hs0_0 t).read_unread, (hs0_1 t).read_unread, (hs0_2 t).read_unread, (hs0_3 t).read_unread,
      (hs0_4 t).read_unread, (hs0_5 t).read_unread, (hs0_6 t).read_unread, (hs0_7 t).read_unread, (hs0_8 t).read_unread,
      (hs0_9 t).read_unread, (hs0_10 t).read_unread, (hs0_11 t).read_unread, (hs0_12 t).read_unread, (hs0_13 t).read_unread,
      (hs0_14 t).read_unread, (hs0_15 t).read_unread, (hs0_16 t).read_unread, (hs0_17 t).read_unread, (Memref.isWhole_whole _).read_unread,
      View.ld_unit_zero (S := S512x512) zero2, View.ld_unit_zero (S := S1x512) zero2, View.ld_unit_zero (S := S1x1024) zero2,
      View.ld_unit_zero (S := S1024x512) zero2, View.readCov_unit_zero (S := S1x512) _ zero2]
    unfold_payloads
    rw [shapeCast_self]
    dsimp only [block, out, tot4, tot3, tot2, tot1, next, last, pre, quarter, invStd, mean2, mean, p0, p1, retR, retI, phiQ, mr, mi, invSq, ti, tr,
      wc, phi, phiInit, qz, mag, omega, rowSum, total, prefixV, cosV, sinV, Chunk.flip, odd, polC, polS, rest, turns, gelu, lin,
      weights, rows0, rows1, rows2, rows3, zeros, rowsAt, quarterAt]
    try (unfold_payloads; dsimp only)

set_option maxHeartbeats 2000000 in
/-- Any other point: the totals that it leaves, from those that the point before left. -/
theorem totals_B (h0 : ¬t.val % 4 = 0) : prev m c t.val t.isLt = tot4 m c t (prev m c (t.val - 1) (by have := t.isLt; omega)) := by
  unfold prev
  rw [outsAt0_B m c t h0]
  refine totals_ext ?_ ?_ ?_ ?_
  all_goals dsimp only
  on_goal 1 => unfold sout0_B_0; refine (View.read_writes_eq_canon _ _ _ (by intro y; apply scover0_B_0)).trans ?_
  on_goal 2 => unfold sout0_B_1; refine (View.read_writes_eq_canon _ _ _ (by intro y; apply scover0_B_1)).trans ?_
  on_goal 3 => unfold sout0_B_2; refine (View.read_writes_eq_canon _ _ _ (by intro y; apply scover0_B_2)).trans ?_
  on_goal 4 => unfold sout0_B_3; refine (View.read_writes_eq_canon _ _ _ (by intro y; apply scover0_B_3)).trans ?_
  all_goals
    unfold kernelRun0_B
    dsimp only
    sl_unfold_words
    rw [View.canon_unit_zero (S := S1x512) zero2]
    simp only [View.readAt_eq_ld, (hs0_0 t).read_unread, (hs0_1 t).read_unread, (hs0_2 t).read_unread, (hs0_3 t).read_unread,
      (hs0_4 t).read_unread, (hs0_5 t).read_unread, (hs0_6 t).read_unread, (hs0_7 t).read_unread, (hs0_8 t).read_unread,
      (hs0_9 t).read_unread, (hs0_10 t).read_unread, (hs0_11 t).read_unread, (hs0_12 t).read_unread, (hs0_13 t).read_unread,
      (hs0_14 t).read_unread, (hs0_15 t).read_unread, (hs0_16 t).read_unread, (hs0_17 t).read_unread, (Memref.isWhole_whole _).read_unread,
      View.ld_unit_zero (S := S512x512) zero2, View.ld_unit_zero (S := S1x512) zero2, View.ld_unit_zero (S := S1x1024) zero2,
      View.ld_unit_zero (S := S1024x512) zero2, View.readCov_unit_zero (S := S1x512) _ zero2]
    unfold_payloads
    rw [shapeCast_self]
    dsimp only [block, out, tot4, tot3, tot2, tot1, next, last, pre, quarter, invStd, mean2, mean, p0, p1, retR, retI, phiQ, mr, mi, invSq, ti, tr,
      wc, phi, phiInit, qz, mag, omega, rowSum, total, prefixV, cosV, sinV, Chunk.flip, odd, polC, polS, rest, turns, gelu, lin,
      weights, rows0, rows1, rows2, rows3, zeros, rowsAt, quarterAt]
    try (unfold_payloads; dsimp only)

end Cert.Link

end
-- ==== Proof.Spec.lean ====
module

public import Idealize.ShloMosaic.PureOps.Ideal
public import Idealize.ShloMosaic.PureOps.Ideal.Laws

@[expose] public section

noncomputable section

/-! The problem's mathematics over the real numbers: what every entry of the result is, as a function of the arguments'
    entries. Both programs are proved to compute `Cert.Spec.Params.result`. -/

namespace Cert.Spec

open Idealize.ShloMosaic Finset

/-- The real number that a 32-bit word stands for. -/
def c32 (w : BitVec 32) : ℝ := (Ideal.ofBits .f32 w).toReal

/-- A word whose exponent field is not full stands for a real number. -/
theorem ofBits_eq (w : BitVec 32) (h : (w.extractLsb' 23 8).toNat ≠ 255) : Ideal.ofBits .f32 w = ((c32 w : ℝ) : EReal) := by
  unfold c32
  rw [EReal.coe_toReal] <;> · simp only [Ideal.ofBits, Ideal.ieee]; rw [if_neg (by simpa using h)]; split <;> simp only [ne_eq, EReal.coe_ne_top, EReal.coe_ne_bot, not_false_eq_true]

/-- The word of one half. -/
theorem c32_half : c32 0x3F000000#32 = 1 / 2 := by
  simp [c32, Ideal.ofBits, Ideal.ieee, -EReal.coe_mul]; norm_num
/-- The word of minus one half. -/
theorem c32_neg_half : c32 0xBF000000#32 = -(1 / 2) := by
  simp [c32, Ideal.ofBits, Ideal.ieee, -EReal.coe_mul]; norm_num
/-- The word of one. -/
theorem c32_one : c32 0x3F800000#32 = 1 := by
  simp [c32, Ideal.ofBits, Ideal.ieee, -EReal.coe_mul]; norm_num
/-- The word of five. -/
theorem c32_five : c32 0x40A00000#32 = 5 := by
  simp [c32, Ideal.ofBits, Ideal.ieee, -EReal.coe_mul]; norm_num
/-- The word of 2048. -/
theorem c32_2048 : c32 0x45000000#32 = 2048 := by
  simp [c32, Ideal.ofBits, Ideal.ieee, -EReal.coe_mul]; norm_num
/-- The word of 1/2048. -/
theorem c32_inv2048 : c32 0x3A000000#32 = 1 / 2048 := by
  simp [c32, Ideal.ofBits, Ideal.ieee, -EReal.coe_mul]; norm_num
/-- The word of the sine's cubic coefficient with its sign changed. -/
theorem c32_sixth : c32 0x3E2AAAA3#32 = -c32 0xBE2AAAA3#32 := by
  simp [c32, Ideal.ofBits, Ideal.ieee, -EReal.coe_mul]

/-- The factor of the gelu's tanh form: `√(2/π)` in single precision. -/
def root : ℝ := c32 0x3F4C422A#32

/-- The coefficient of the cube in the gelu's tanh form. -/
def cubic : ℝ := c32 0x3D372713#32

/-- The kernel's linear gelu constant is twice the reference's root. -/
theorem c32_linear : c32 0x3FCC422A#32 = 2 * root := by
  simp [root, c32, Ideal.ofBits, Ideal.ieee, -EReal.coe_mul]; norm_num

/-- Twice the product of the two gelu constants, as a fraction. -/
theorem two_root_cubic : 2 * root * cubic = 80338380498831 / 1125899906842624 := by
  simp [root, cubic, c32, Ideal.ofBits, Ideal.ieee, -EReal.coe_mul]; norm_num

/-- The gelu in its tanh form. -/
def gl (t : ℝ) : ℝ := t * (1 / 2 * (1 + Real.tanh (root * (t + cubic * (t * t * t)))))

/-- The tanh form by one exponential. -/
theorem gl_eq (t : ℝ) :
    t / (1 + Real.exp (0 - t * (2 * root + 2 * root * cubic * t * t))) = gl t := by
  have h : ∀ u : ℝ, 1 / (1 + Real.exp (0 - 2 * u)) = 1 / 2 * (1 + Real.tanh u) := by
    intro u
    have hp := Real.exp_pos u
    have hn := Real.exp_pos (-u)
    have he : Real.exp (0 - 2 * u) = Real.exp (-u) * Real.exp (-u) := by rw [← Real.exp_add]; ring_nf
    have h1 : Real.exp u * Real.exp (-u) = 1 := by rw [← Real.exp_add]; simp
    rw [he, Real.tanh_eq_sinh_div_cosh, Real.sinh_eq, Real.cosh_eq]
    have : (Real.exp u + Real.exp (-u)) ≠ 0 := by positivity
    have h2 : (1 + Real.exp (-u) * Real.exp (-u)) ≠ 0 := by positivity
    field_simp
    nlinarith [h1]
  unfold gl
  rw [div_eq_mul_one_div, ← h (root * (t + cubic * (t * t * t)))]
  congr 4
  ring_nf

/-- The number of quarter turns nearest to an angle, as a 32-bit integer. -/
def turns (p : ℝ) : BitVec 32 :=
  Ideal.fptosi 32 (((Ideal.roundHalfEven (p * c32 0x3F22F983#32) : ℤ) : ℝ) : EReal)

/-- An angle less its quarter turns. -/
def rest (p : ℝ) : ℝ :=
  p - (((turns p).toInt : ℝ) * c32 0x3FC90FDB#32 + ((turns p).toInt : ℝ) * c32 0xB33BBD2E#32)

/-- The sine of a small angle, by its polynomial. -/
def polS (r : ℝ) : ℝ := r + r * r * r * (c32 0xBE2AAAA3#32 + r * r * (c32 0x3C08839E#32 + r * r * c32 0xB94CA1F9#32))

/-- The cosine of a small angle, by its polynomial. -/
def polC (r : ℝ) : ℝ := 1 + r * r * (-(1 / 2) + r * r * (c32 0x3D2AAAA5#32 + r * r * c32 0xBAB6061A#32))

/-- The quadrant that a number of quarter turns ends in. -/
def quad (k : BitVec 32) : BitVec 32 := k &&& 3#32

/-- The sine. -/
def sn (p : ℝ) : ℝ :=
  if quad (turns p) = 0#32 then polS (rest p) else if quad (turns p) = 1#32 then polC (rest p)
    else if quad (turns p) = 2#32 then -polS (rest p) else -polC (rest p)

/-- The cosine. -/
def cs (p : ℝ) : ℝ :=
  if quad (turns p) = 0#32 then polC (rest p) else if quad (turns p) = 1#32 then -polS (rest p)
    else if quad (turns p) = 2#32 then -polC (rest p) else polS (rest p)

/-- A linear layer on one row. -/
def lin {n k : ℕ} (w : Fin n → Fin k → ℝ) (b : Fin k → ℝ) (a : Fin n → ℝ) (j : Fin k) : ℝ := ∑ i, a i * w i j + b j

/-- The sum of a column's entries up to row `t`. -/
def pre {n : ℕ} (f : ℕ → Fin n → ℝ) (t : ℕ) (k : Fin n) : ℝ := ∑ u ∈ range (t + 1), f u k

/-- The sum of the first `t` rows. -/
def upto {n : ℕ} (f : ℕ → Fin n → ℝ) (t : ℕ) (k : Fin n) : ℝ := ∑ u ∈ range t, f u k

/-- The weights, the biases and the other vectors; the layer norm's width of 2048 as four quarters of 512. -/
structure Params where
  wOm : Fin 512 → Fin 512 → ℝ
  bOm : Fin 512 → ℝ
  wP1 : Fin 512 → Fin 512 → ℝ
  bP1 : Fin 512 → ℝ
  wP2 : Fin 512 → Fin 512 → ℝ
  bP2 : Fin 512 → ℝ
  scale : Fin 512 → ℝ
  wMag : Fin 512 → Fin 512 → ℝ
  bMag : Fin 512 → ℝ
  wQ : Fin 512 → Fin 512 → ℝ
  bQ : Fin 512 → ℝ
  g : Fin 4 → Fin 512 → ℝ
  lb : Fin 4 → Fin 512 → ℝ
  wO1 : Fin 4 → Fin 512 → Fin 1024 → ℝ
  bO1 : Fin 1024 → ℝ
  wO2 : Fin 1024 → Fin 512 → ℝ
  bO2 : Fin 512 → ℝ

namespace Params

variable (p : Params) (x : ℕ → Fin 512 → ℝ)

/-- The angular velocity. -/
def om (t : ℕ) (k : Fin 512) : ℝ := lin p.wOm p.bOm (x t) k

/-- The magnitude. -/
def mg (t : ℕ) (k : Fin 512) : ℝ := (1 + Real.exp (-lin p.wMag p.bMag (x t) k))⁻¹ * 5

/-- The query's offset of the angle. -/
def qz (t : ℕ) (k : Fin 512) : ℝ := lin p.wQ p.bQ (x t) k

/-- The angle before the angular velocities are added. -/
def phi0 (t : ℕ) (k : Fin 512) : ℝ := lin p.wP2 p.bP2 (fun j => gl (lin p.wP1 p.bP1 (x t) j)) k

/-- The angle: the initial one plus the scaled sum of the angular velocities so far. -/
def phi (t : ℕ) (k : Fin 512) : ℝ := p.phi0 x t k + pre (p.om x) t k * |p.scale k|

/-- What a row adds to the memory's real part. -/
def tr (t : ℕ) (k : Fin 512) : ℝ := p.mg x t k * x t k * cs (p.phi x t k)

/-- What a row adds to the memory's imaginary part. -/
def ti (t : ℕ) (k : Fin 512) : ℝ := p.mg x t k * x t k * sn (p.phi x t k)

/-- The reciprocal root of the magnitudes' sum so far. -/
def inv (t : ℕ) (k : Fin 512) : ℝ := (Real.sqrt (pre (p.mg x) t k + c32 0x322BCC77#32))⁻¹

/-- The memory's real part, normalised. -/
def mr (t : ℕ) (k : Fin 512) : ℝ := pre (p.tr x) t k * p.inv x t k

/-- The memory's imaginary part, normalised. -/
def mi (t : ℕ) (k : Fin 512) : ℝ := pre (p.ti x) t k * p.inv x t k

/-- The angle at which the memory is read. -/
def phiQ (t : ℕ) (k : Fin 512) : ℝ := p.phi x t k + p.qz x t k

/-- The real part of what is read from the memory. -/
def retR (t : ℕ) (k : Fin 512) : ℝ := p.mr x t k * cs (p.phiQ x t k) + p.mi x t k * sn (p.phiQ x t k)

/-- The imaginary part of what is read from the memory. -/
def retI (t : ℕ) (k : Fin 512) : ℝ := p.mi x t k * cs (p.phiQ x t k) - p.mr x t k * sn (p.phiQ x t k)

/-- The context's first quarter. -/
def p0 (t : ℕ) (k : Fin 512) : ℝ := x t k * cs (p.phi x t k)

/-- The context's second quarter. -/
def p1 (t : ℕ) (k : Fin 512) : ℝ := x t k * sn (p.phi x t k)

/-- The context's four quarters. -/
def ctx (t : ℕ) (q : Fin 4) : Fin 512 → ℝ := ![p.p0 x t, p.p1 x t, p.retR x t, p.retI x t] q

end Params

/-- The mean of a row of 2048 entries. -/
def mean (a : Fin 4 → Fin 512 → ℝ) : ℝ := (∑ q, ∑ k, a q k) / 2048

/-- The variance of a row of 2048 entries. -/
def vari (a : Fin 4 → Fin 512 → ℝ) : ℝ := (∑ q, ∑ k, (a q k - mean a) * (a q k - mean a)) / 2048

/-- One entry of the layer norm of a row. -/
def norm (g lb a : Fin 4 → Fin 512 → ℝ) (q : Fin 4) (k : Fin 512) : ℝ :=
  (a q k - mean a) / Real.sqrt (vari a + c32 0x3727C5AC#32) * g q k + lb q k

namespace Params

variable (p : Params) (x : ℕ → Fin 512 → ℝ)

/-- The first output layer on the layer norm of the context. -/
def hid (t : ℕ) (j : Fin 1024) : ℝ := ∑ q, ∑ k, norm p.g p.lb (p.ctx x t) q k * p.wO1 q k j + p.bO1 j

/-- The result. -/
def result (t : ℕ) (k : Fin 512) : ℝ := x t k + ∑ j, gl (p.hid x t j) * p.wO2 j k + p.bO2 k

end Params

/-! ## The variance as the mean square less the squared mean -/

/-- The mean of a row's squares. -/
def mean2 (a : Fin 4 → Fin 512 → ℝ) : ℝ := (∑ q, ∑ k, a q k * a q k) / 2048

/-- The mean of squares less the square of the mean is the variance. -/
theorem vari_eq (a : Fin 4 → Fin 512 → ℝ) : mean2 a - mean a * mean a = vari a := by
  have e : ∀ q k, (a q k - mean a) * (a q k - mean a) = a q k * a q k - 2 * mean a * a q k + mean a * mean a := by
    intro q k; ring
  have hm : ∑ q, ∑ k, a q k = 2048 * mean a := by unfold mean; ring
  unfold vari mean2
  simp only [e, sum_add_distrib, sum_sub_distrib, ← mul_sum, hm]
  simp
  ring

/-- A variance is not negative. -/
theorem vari_nonneg (a : Fin 4 → Fin 512 → ℝ) : 0 ≤ vari a :=
  div_nonneg (sum_nonneg fun _ _ => sum_nonneg fun _ _ => mul_self_nonneg _) (by norm_num)

/-- The layer norm folded into the layer after it. -/
theorem fold_norm (g lb a : Fin 4 → Fin 512 → ℝ) (w : Fin 4 → Fin 512 → ℝ) (b : ℝ) :
    (∑ q, ∑ k, a q k * (w q k * g q k)) * (Real.sqrt (vari a + c32 0x3727C5AC#32))⁻¹
        - mean a * (Real.sqrt (vari a + c32 0x3727C5AC#32))⁻¹ * (∑ q, ∑ k, w q k * g q k)
        + (∑ q, ∑ k, lb q k * w q k + b)
      = ∑ q, ∑ k, norm g lb a q k * w q k + b := by
  have e : ∀ q k, norm g lb a q k * w q k
      = a q k * (w q k * g q k) * (Real.sqrt (vari a + c32 0x3727C5AC#32))⁻¹
        - mean a * (Real.sqrt (vari a + c32 0x3727C5AC#32))⁻¹ * (w q k * g q k) + lb q k * w q k := by
    intro q k; unfold norm; rw [div_eq_mul_inv]; ring
  simp only [e, sum_add_distrib, sum_sub_distrib, ← mul_sum, ← sum_mul]
  ring

/-! ## The quadrants by bits -/

/-- The quadrant of a turn count is zero, one, two or three. -/
theorem quad_cases (k : BitVec 32) : quad k = 0#32 ∨ quad k = 1#32 ∨ quad k = 2#32 ∨ quad k = 3#32 := by
  have h : (quad k).toNat < 4 := by
    unfold quad; rw [BitVec.toNat_and]; exact Nat.and_lt_two_pow (n := 2) _ (by decide)
  have : (quad k).toNat = 0 ∨ (quad k).toNat = 1 ∨ (quad k).toNat = 2 ∨ (quad k).toNat = 3 := by omega
  rcases this with h | h | h | h
  · exact .inl (BitVec.eq_of_toNat_eq h)
  · exact .inr (.inl (BitVec.eq_of_toNat_eq h))
  · exact .inr (.inr (.inl (BitVec.eq_of_toNat_eq h)))
  · exact .inr (.inr (.inr (BitVec.eq_of_toNat_eq h)))

/-- The lowest bit, by the quadrant. -/
theorem and_one (k : BitVec 32) : k &&& 1#32 = quad k &&& 1#32 := by
  unfold quad; rw [BitVec.and_assoc]; rfl

/-- The second bit, by the quadrant. -/
theorem and_two (k : BitVec 32) : k &&& 2#32 = quad k &&& 2#32 := by
  unfold quad; rw [BitVec.and_assoc]; rfl

/-- The second bit of the next number, by the quadrant. -/
theorem succ_and_two (k : BitVec 32) : (k + 1#32) &&& 2#32 = (quad k + 1#32) &&& 2#32 := by
  have hq : ∀ a : BitVec 32, (quad a).toNat = a.toNat % 4 := by
    intro a; unfold quad; rw [BitVec.toNat_and]; exact Nat.and_two_pow_sub_one_eq_mod _ 2
  rw [and_two (k + 1#32), and_two (quad k + 1#32)]
  congr 1
  apply BitVec.eq_of_toNat_eq
  rw [hq, hq, BitVec.toNat_add, BitVec.toNat_add, hq]
  have h1 : (1#32).toNat = 1 := rfl
  rw [h1]
  omega

/-- The sine, its two decisions each by one bit. -/
theorem sn_eq (p : ℝ) :
    (if turns p &&& 2#32 ≠ 0#32 then 0 - (if turns p &&& 1#32 ≠ 0#32 then polC (rest p) else polS (rest p))
      else (if turns p &&& 1#32 ≠ 0#32 then polC (rest p) else polS (rest p))) = sn p := by
  unfold sn
  rw [and_one, and_two]
  rcases quad_cases (turns p) with h | h | h | h <;> rw [h] <;> simp

/-- The cosine, its two decisions each by one bit. -/
theorem cs_eq (p : ℝ) :
    (if (turns p + 1#32) &&& 2#32 ≠ 0#32 then 0 - (if turns p &&& 1#32 ≠ 0#32 then polS (rest p) else polC (rest p))
      else (if turns p &&& 1#32 ≠ 0#32 then polS (rest p) else polC (rest p))) = cs p := by
  unfold cs
  rw [and_one, succ_and_two]
  rcases quad_cases (turns p) with h | h | h | h <;> rw [h] <;> simp

/-! ## The sums that are under a root -/

/-- The number added to the magnitudes' sum is positive. -/
theorem c32_eps8 : 0 < c32 0x322BCC77#32 := by
  simp [c32, Ideal.ofBits, Ideal.ieee, -EReal.coe_mul]
/-- The number added to the variance is positive. -/
theorem c32_eps5 : 0 < c32 0x3727C5AC#32 := by
  simp [c32, Ideal.ofBits, Ideal.ieee, -EReal.coe_mul]

/-- A magnitude is positive. -/
theorem Params.mg_pos (p : Params) (x : ℕ → Fin 512 → ℝ) (t : ℕ) (k : Fin 512) : 0 < p.mg x t k := by
  unfold Params.mg; positivity

/-- What stands under the memory's root is positive. -/
theorem Params.under_pos (p : Params) (x : ℕ → Fin 512 → ℝ) (t : ℕ) (k : Fin 512) :
    0 < pre (p.mg x) t k + c32 0x322BCC77#32 :=
  add_pos_of_nonneg_of_pos (sum_nonneg fun _ _ => (p.mg_pos x _ _).le) c32_eps8

/-- What stands under the layer norm's root is positive. -/
theorem vari_eps_pos (a : Fin 4 → Fin 512 → ℝ) : 0 < vari a + c32 0x3727C5AC#32 :=
  add_pos_of_nonneg_of_pos (vari_nonneg a) c32_eps5

end Cert.Spec

end
-- ==== Proof.Reals.lean ====
module

public import proofs.«01_k».proof.Proof.Chunk
public import proofs.«01_k».proof.Proof.Spec
public import Idealize.ShloMosaic.Lib.ValueIdx
public import Idealize.ShloMosaic.Lib.Pointwise
public import Idealize.ShloMosaic.Lib.Pipeline.Value

@[expose] public section

noncomputable section

/-! One sub-chunk at real numbers: arrays whose entries are real numbers, and each of the sub-chunk's functions on them. -/

namespace Cert.Reals

open Idealize.ShloMosaic Cert.KernelIdeal Cert.KernelIdeal.Gen Cert.Chunk Cert.Spec Finset

/-- The array's entries are the real numbers `f i k`. -/
def Re {p q : ℕ} {φ : FTy} (a : FVec Ideal ⟨2, ![p, q]⟩ φ) (f : Fin p → Fin q → ℝ) : Prop :=
  ∀ i k, a (ix2 i k) = ((f i k : ℝ) : EReal)

section Elementwise

variable {p q : ℕ} {a b : FVec Ideal ⟨2, ![p, q]⟩ .f32} {f g : Fin p → Fin q → ℝ}

/-- Sums of real arrays are the real sums. -/
theorem Re.add (ha : Re a f) (hb : Re b g) : Re (addf a b) fun i k => f i k + g i k := fun i k => by
  show a _ + b _ = _; rw [ha, hb, ← EReal.coe_add]
/-- Differences of real arrays are the real differences. -/
theorem Re.sub (ha : Re a f) (hb : Re b g) : Re (subf a b) fun i k => f i k - g i k := fun i k => by
  show a _ - b _ = _; rw [ha, hb, ← EReal.coe_sub]
/-- Products of real arrays are the real products. -/
theorem Re.mul (ha : Re a f) (hb : Re b g) : Re (mulf a b) fun i k => f i k * g i k := fun i k => by
  show a _ * b _ = _; rw [ha, hb, ← EReal.coe_mul]
/-- Quotients of real arrays are the real quotients, where no divisor is zero. -/
theorem Re.div (ha : Re a f) (hb : Re b g) (h : ∀ i k, g i k ≠ 0) : Re (divf a b) fun i k => f i k / g i k := fun i k => by
  show Ideal.div (a _) (b _) = _
  rw [ha, hb, Ideal.div_coe (h i k), ← EReal.coe_mul, mul_one_div]
/-- Exponentials of real arrays are the real exponentials. -/
theorem Re.exp (ha : Re a f) : Re (exp a) fun i k => Real.exp (f i k) := fun i k => by
  show Ideal.exp (a _) = _; rw [ha, Ideal.exp_coe]
/-- The logistic function of a real array is the real one. -/
theorem Re.logistic (ha : Re a f) : Re (logistic a) fun i k => (1 + Real.exp (-f i k))⁻¹ := fun i k => by
  show Ideal.logistic (a _) = _; rw [ha, Ideal.logistic_coe]
/-- Reciprocal roots of positive real arrays are the real ones. -/
theorem Re.rsqrt (ha : Re a f) (h : ∀ i k, 0 < f i k) : Re (rsqrt a) fun i k => (Real.sqrt (f i k))⁻¹ := fun i k => by
  show Ideal.rsqrt (a _) = _; rw [ha, Ideal.rsqrt_coe, if_neg (h i k).not_gt, if_neg (h i k).ne']
/-- Magnitudes of real arrays are the real magnitudes. -/
theorem Re.abs (ha : Re a f) : Re (absf a) fun i k => |f i k| := fun i k => by
  show max (a _) (-a _) = _; rw [ha, ← EReal.coe_neg]; exact (EReal.coe_strictMono.monotone.map_max (a := f i k) (b := -f i k)).symm
/-- An array of one finite word holds that word's real number everywhere. -/
theorem Re.const (w : BitVec 32) (h : (w.extractLsb' 23 8).toNat ≠ 255) :
    Re (broadcast ⟨2, ![p, q]⟩ (Scalar.ofBits (F := Ideal) .f32 w)) fun _ _ => c32 w := fun _ _ => ofBits_eq w h
/-- An array of zero words holds zero everywhere. -/
theorem Re.zero : Re (broadcast ⟨2, ![p, q]⟩ (Scalar.ofBits (F := Ideal) .f32 0x00000000#32)) fun _ _ => 0 := fun _ _ =>
  Ideal.ofBits_zero_f32
/-- An array of the word of one holds one everywhere. -/
theorem Re.one : Re (broadcast ⟨2, ![p, q]⟩ (Scalar.ofBits (F := Ideal) .f32 0x3F800000#32)) fun _ _ => 1 := fun i k => by
  rw [Re.const 0x3F800000#32 (by decide) i k, c32_one]
/-- The real numbers an array holds may be replaced by equal ones. -/
theorem Re.congr (ha : Re a f) (h : ∀ i k, f i k = g i k) : Re a g := fun i k => by rw [ha, h]

/-- Rounding to the narrower format keeps the real numbers. -/
theorem Re.trunc (ha : Re a f) : Re (truncf .bf16 a bitsLt_bf16_f32) f := ha

/-- The named constant stands for twice the product of the reference's two gelu constants. -/
theorem cubic_named : Named.named (F := Ideal) κ "gelu_cubic" (φ := .f32) 0x3D922279#32 = ((2 * root * cubic : ℝ) : EReal) := by
  rw [two_root_cubic]
  exact IdealRules.named_const.ideal_named_scalar _ _ _ _ rfl

/-- The kernel's gelu is the tanh form. -/
theorem Re.gelu (ha : Re a f) : Re (Chunk.gelu a) fun i k => gl (f i k) := by
  have hl : Re (broadcast ⟨2, ![p, q]⟩ (Scalar.ofBits (F := Ideal) .f32 0x3FCC422A#32)) fun _ _ => 2 * root :=
    fun i k => by rw [Re.const 0x3FCC422A#32 (by decide) i k, c32_linear]
  have hc : Re (broadcast ⟨2, ![p, q]⟩ (Named.named (F := Ideal) κ "gelu_cubic" (φ := .f32) 0x3D922279#32)) fun _ _ => 2 * root * cubic :=
    fun _ _ => cubic_named
  refine (ha.div (Re.one.add (Re.zero.sub (ha.mul (hl.add ((hc.mul ha).mul ha)))).exp) fun i k => ?_).congr fun i k => gl_eq _
  positivity

end Elementwise

/-! ## Products, sums and rows spread over an array -/

/-- A row spread over the array's rows. -/
theorem Re.spreadRow {p q : ℕ} {b : FVec Ideal ⟨2, ![1, q]⟩ .f32} {g : Fin 1 → Fin q → ℝ} (hb : Re b g)
    (h : (⟨2, ![1, q]⟩ : Shape).Broadcasts ⟨2, ![p, q]⟩) (hq : q ≠ 1) : Re (broadcastTo ⟨2, ![p, q]⟩ b h) fun _ k => g 0 k := fun i k => by
  rw [broadcastTo_apply b h (ix2 i k) (ix2 0 k), hb]
  intro a
  fin_cases a
  · rfl
  · exact (if_neg hq).symm

/-- A column spread over the array's columns. -/
theorem Re.spreadCol {p q : ℕ} {b : FVec Ideal ⟨2, ![p, 1]⟩ .f32} {g : Fin p → Fin 1 → ℝ} (hb : Re b g)
    (h : (⟨2, ![p, 1]⟩ : Shape).Broadcasts ⟨2, ![p, q]⟩) (hp : p ≠ 1) : Re (broadcastTo ⟨2, ![p, q]⟩ b h) fun i _ => g i 0 := fun i k => by
  rw [broadcastTo_apply b h (ix2 i k) (ix2 i 0), hb]
  intro a
  fin_cases a
  · exact (if_neg hp).symm
  · rfl

/-- A sum of real numbers is the same among the extended ones. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s h ih => rw [sum_insert h, sum_insert h, ih, EReal.coe_add]

/-- A reshape to the same shape keeps the real numbers. -/
theorem Re.cast {p q : ℕ} {φ : FTy} {a : FVec Ideal ⟨2, ![p, q]⟩ φ} {f : Fin p → Fin q → ℝ} (ha : Re a f)
    (h : (⟨2, ![p, q]⟩ : Shape).ShapeCasts ⟨2, ![p, q]⟩) : Re (φ := φ) (shapeCast ⟨2, ![p, q]⟩ a h) f := by rw [shapeCast_self]; exact ha

/-- The product with the weights of a layer, as a double index. -/
theorem Re.dot {a : FVec Ideal S512x512 .bf16} {w : FVec Ideal S512x512 .bf16} {f g : Fin 512 → Fin 512 → ℝ} (ha : Re a f) (hw : Re w g) :
    Re (matmul dot_S512x512_S512x512_S512x512_1_0_0_1_n_n none a w (constant S512x512 .f32 0x00000000#32))
      fun i k => ∑ j, f i j * g j k := fun i k => by
  pointwise
  simp only [ha _ _, hw _ _, ← EReal.coe_mul, coe_sum]

/-- A product with 512 by 1024 weights is the real sum of products. -/
theorem Re.dotWide {a : FVec Ideal S512x512 .bf16} {w : FVec Ideal S512x1024 .bf16} {f : Fin 512 → Fin 512 → ℝ} {g : Fin 512 → Fin 1024 → ℝ}
    (ha : Re a f) (hw : Re w g) :
    Re (matmul dot_S512x512_S512x1024_S512x1024_1_0_0_1_n_n none a w (constant S512x1024 .f32 0x00000000#32))
      fun i k => ∑ j, f i j * g j k := fun i k => by
  pointwise
  simp only [ha _ _, hw _ _, ← EReal.coe_mul, coe_sum]

/-- A product with 1024 by 512 weights is the real sum of products. -/
theorem Re.dotBack {a : FVec Ideal S512x1024 .bf16} {w : FVec Ideal S1024x512 .bf16} {f : Fin 512 → Fin 1024 → ℝ} {g : Fin 1024 → Fin 512 → ℝ}
    (ha : Re a f) (hw : Re w g) :
    Re (matmul dot_S512x1024_S1024x512_S512x512_1_0_0_1_n_n none a w (constant S512x512 .f32 0x00000000#32))
      fun i k => ∑ j, f i j * g j k := fun i k => by
  pointwise
  simp only [ha _ _, hw _ _, ← EReal.coe_mul, coe_sum]

/-- The sums of an array's columns, as a row. -/
theorem Re.colSum {a : FVec Ideal S512x512 .f32} {f : Fin 512 → Fin 512 → ℝ} (ha : Re a f) :
    Re (φ := .f32) (p := 1) (q := 512) (shapeCast S1x512 (multiReduction .add [0] S512 a 0x00000000#32 reduces_S512x512_S512 (.inl rfl) rfl)
      shapeCasts_S512_S1x512) fun _ k => ∑ i, f i k := fun i k => by
  pointwise
  simp only [ha _ _, coe_sum]

/-- The kernel's row sum is the real sum of the row. -/
theorem Re.rowSum {a : FVec Ideal S512x512 .f32} {f : Fin 512 → Fin 512 → ℝ} (ha : Re a f) :
    Re (p := 512) (q := 1) (Chunk.rowSum a) fun i _ => ∑ k, f i k := fun i k => by
  unfold Chunk.rowSum
  pointwise
  simp only [ha _ _, coe_sum]

/-- A 512-column linear layer. -/
theorem Re.lin {a : FVec Ideal S512x512 .bf16} {w : Vec Ideal S512x512 .bf16} {b : Vec Ideal S1x512 .f32} {f g : Fin 512 → Fin 512 → ℝ}
    {h : Fin 512 → ℝ} (ha : Re a f) (hw : Re (φ := .bf16) w g) (hb : Re (φ := .f32) b fun _ k => h k) :
    Re (Chunk.lin a w b) fun i k => Spec.lin g h (f i) k :=
  (ha.dot (hw.cast _)).add ((hb.cast _).spreadRow _ (by decide))

/-! ## Sine and cosine -/

section Trig

variable {a : FVec Ideal S512x512 .f32} {f : Fin 512 → Fin 512 → ℝ}

/-- The kernel counts the specification's number of quarter turns. -/
theorem turns_apply (ha : Re a f) (i k : Fin 512) : Chunk.turns a (ix2 i k) = Spec.turns (f i k) := by
  show Ideal.fptosi 32 (Ideal.liftRound Ideal.roundHalfEven (a _ * Ideal.ofBits .f32 0x3F22F983#32)) = _
  rw [ha, ofBits_eq _ (by decide), ← EReal.coe_mul, Ideal.liftRound_coe]; rfl

/-- What the kernel leaves of the angle is the specification's remainder. -/
theorem Re.rest (ha : Re a f) : Re (Chunk.rest a) fun i k => Spec.rest (f i k) := by
  have hn : Re (sitofp (F := Ideal) .f32 (Chunk.turns a)) fun i k => ((Spec.turns (f i k)).toInt : ℝ) := fun i k => by
    show (((Chunk.turns a (ix2 i k)).toInt : ℝ) : EReal) = _; rw [turns_apply ha]
  refine ((ha.sub (hn.mul (Re.const _ (by decide)))).sub (hn.mul (Re.const _ (by decide)))).congr fun i k => ?_
  unfold Spec.rest; ring

/-- The kernel's sine polynomial is the specification's. -/
theorem Re.polS (ha : Re a f) : Re (Chunk.polS a) fun i k => Spec.polS (Spec.rest (f i k)) := by
  have hr := ha.rest
  have h2 := hr.mul hr
  refine ((((((((Re.const _ (by decide)).mul h2).add (Re.const _ (by decide))).mul h2).sub (Re.const _ (by decide))).mul h2).mul hr).add hr).congr
    fun i k => ?_
  rw [c32_sixth]; unfold Spec.polS; ring

/-- The kernel's cosine polynomial is the specification's. -/
theorem Re.polC (ha : Re a f) : Re (Chunk.polC a) fun i k => Spec.polC (Spec.rest (f i k)) := by
  have hr := ha.rest
  have h2 := hr.mul hr
  refine (((((((Re.const _ (by decide)).mul h2).add (Re.const _ (by decide))).mul h2).sub (Re.const _ (by decide))).mul h2).add
    (Re.const _ (by decide))).congr fun i k => ?_
  rw [c32_half, c32_one]; unfold Spec.polC; ring

/-- A selection by a masked bit is a choice on whether that bit is set. -/
theorem select_bit {α : Type} (k n : BitVec 32) (u v : α) :
    Scalar.select (IntOp.cmpi .ne (IntOp.andi k n) 0#32) u v = if k &&& n ≠ 0#32 then u else v := by
  unfold Scalar.select IntOp.cmpi IntOp.andi
  by_cases h : k &&& n = 0#32
  · rw [if_neg (by simp [h]), if_neg (by simp [h])]
  · have hb : (k &&& n != 0#32) = true := by simpa using h
    rw [if_pos (by simp only [hb]; rfl), if_pos h]

/-- The kernel's sine. -/
theorem Re.sinV (ha : Re a f) : Re (Chunk.sinV a) fun i k => sn (f i k) := fun i k => by
  have hs := ha.polS i k
  have hc := ha.polC i k
  have ht := turns_apply ha i k
  unfold Chunk.sinV Chunk.flip Chunk.odd
  pointwise [ht, hs, hc]
  simp only [select_bit]
  rw [← sn_eq]
  split_ifs <;> simp

/-- The kernel's cosine. -/
theorem Re.cosV (ha : Re a f) : Re (Chunk.cosV a) fun i k => cs (f i k) := fun i k => by
  have hs := ha.polS i k
  have hc := ha.polC i k
  have ht := turns_apply ha i k
  unfold Chunk.cosV Chunk.flip Chunk.odd
  pointwise [ht, hs, hc]
  simp only [select_bit]
  rw [← cs_eq]
  by_cases h1 : (Spec.turns (f i k) + 1#32) &&& 2#32 = 0#32 <;> by_cases h2 : Spec.turns (f i k) &&& 1#32 = 0#32 <;> simp [IntOp.addi, h1, h2]

end Trig

/-! ## The running totals -/

/-- The sum of the first `t + d` rows is that of the first `t` plus the next `d`. -/
theorem upto_add {n : ℕ} (f : ℕ → Fin n → ℝ) (t : ℕ) (d : ℕ) (k : Fin n) :
    upto f (t + d) k = upto f t k + ∑ i : Fin d, f (t + i) k := by
  unfold upto; rw [sum_range_add, Finset.sum_range (fun i => f (t + i) k)]

/-- A prefix sum is the triangle's sum within the sub-chunk plus the sum of all rows before it. -/
theorem pre_add {n : ℕ} (f : ℕ → Fin n → ℝ) (t : ℕ) (i : Fin 512) (k : Fin n) :
    Spec.pre f (t + i) k = (∑ j : Fin 512, (if j ≤ i then 1 else 0) * f (t + j) k) + upto f t k := by
  unfold Spec.pre upto
  rw [add_assoc, sum_range_add, add_comm]
  congr 1
  simp only [ite_mul, one_mul, zero_mul, Finset.sum_ite, sum_const_zero, add_zero]
  rw [Finset.sum_range (fun i => f (t + i) k)]
  refine Finset.sum_bij (fun a _ => (⟨a, by omega⟩ : Fin 512)) ?_ ?_ ?_ ?_
  · intro a _; simp only [mem_filter, mem_univ, true_and, Fin.le_def]; omega
  · intro a _ b _ h; exact Fin.ext (by simpa using congrArg Fin.val h)
  · intro b hb; simp only [mem_filter, mem_univ, true_and, Fin.le_def] at hb; exact ⟨⟨b, by omega⟩, mem_univ _, rfl⟩
  · intro a _; rfl

/-- The triangle of ones. -/
def IsTri (t : Vec Ideal S512x512 .bf16) : Prop := Re (φ := .bf16) t fun i j => if j ≤ i then 1 else 0

/-- The sums of the rows up to each row, from the total before the sub-chunk. -/
theorem Re.prefixV {W : Weights Ideal} (ht : IsTri W.tri) {v : Vec Ideal S1x512 .f32} {a : FVec Ideal S512x512 .f32} {f : ℕ → Fin 512 → ℝ} {t0 : ℕ}
    (hv : Re (φ := .f32) v fun _ k => upto f t0 k) (ha : Re a fun i k => f (t0 + i) k) : Re (Chunk.prefixV W v a) fun i k => Spec.pre f (t0 + i) k :=
  (((Re.cast (φ := .bf16) ht _).dot ha.trunc).add (Re.spreadRow hv _ (by decide))).congr fun i k => (pre_add f t0 i k).symm

/-- A total of the earlier rows, plus the sub-chunk's column sums, is the total of the rows up to its end. -/
theorem Re.total {v : Vec Ideal S1x512 .f32} {a : FVec Ideal S512x512 .f32} {f : ℕ → Fin 512 → ℝ} {t0 : ℕ}
    (hv : Re (φ := .f32) v fun _ k => upto f t0 k) (ha : Re a fun i k => f (t0 + i) k) :
    Re (φ := .f32) (Chunk.total v a) fun _ k => upto f (t0 + 512) k :=
  (Re.add hv ha.colSum).congr fun _ k => (upto_add f t0 512 k).symm

/-! ## The sub-chunk -/

/-- The weights' blocks hold the parameters, the layer norm's gain and offset folded into the first output layer. -/
structure Holds (W : Weights Ideal) (p : Params) : Prop where
  tri : IsTri W.tri
  wOm : Re (φ := .bf16) W.wOm p.wOm
  bOm : Re (φ := .f32) W.bOm fun _ k => p.bOm k
  wP1 : Re (φ := .bf16) W.wP1 p.wP1
  bP1 : Re (φ := .f32) W.bP1 fun _ k => p.bP1 k
  wP2 : Re (φ := .bf16) W.wP2 p.wP2
  bP2 : Re (φ := .f32) W.bP2 fun _ k => p.bP2 k
  scale : Re (φ := .f32) W.scale fun _ k => p.scale k
  wMag : Re (φ := .bf16) W.wMag p.wMag
  bMag : Re (φ := .f32) W.bMag fun _ k => p.bMag k
  wQ : Re (φ := .bf16) W.wQ p.wQ
  bQ : Re (φ := .f32) W.bQ fun _ k => p.bQ k
  wO1a : Re (φ := .bf16) W.wO1a fun k j => p.wO1 0 k j * p.g 0 k
  wO1b : Re (φ := .bf16) W.wO1b fun k j => p.wO1 1 k j * p.g 1 k
  wO1c : Re (φ := .bf16) W.wO1c fun k j => p.wO1 2 k j * p.g 2 k
  wO1d : Re (φ := .bf16) W.wO1d fun k j => p.wO1 3 k j * p.g 3 k
  colsum : Re (φ := .f32) W.colsum fun _ j => ∑ q, ∑ k, p.wO1 q k j * p.g q k
  hbias : Re (φ := .f32) W.hbias fun _ j => ∑ q, ∑ k, p.lb q k * p.wO1 q k j + p.bO1 j
  wO2 : Re (φ := .bf16) W.wO2 p.wO2
  bO2 : Re (φ := .f32) W.bO2 fun _ k => p.bO2 k

/-- The totals hold the sums of the rows before `t0`. -/
structure Before (v : Totals Ideal) (p : Params) (x : ℕ → Fin 512 → ℝ) (t0 : ℕ) : Prop where
  om : Re (φ := .f32) v.om fun _ k => upto (p.om x) t0 k
  re : Re (φ := .f32) v.re fun _ k => upto (p.tr x) t0 k
  im : Re (φ := .f32) v.im fun _ k => upto (p.ti x) t0 k
  mag : Re (φ := .f32) v.mag fun _ k => upto (p.mg x) t0 k

section Sub

variable {W : Weights Ideal} {v : Totals Ideal} {p : Params} {x : ℕ → Fin 512 → ℝ} {t0 : ℕ} {a : FVec Ideal S512x512 .f32}

/-- The sub-chunk's angular velocity is the specification's. -/
theorem omega_re (hW : Holds W p) (ha : Re a fun i k => x (t0 + i) k) : Re (omega W a) fun i k => p.om x (t0 + i) k :=
  ha.trunc.lin hW.wOm hW.bOm
/-- The sub-chunk's magnitude is the specification's. -/
theorem mag_re (hW : Holds W p) (ha : Re a fun i k => x (t0 + i) k) : Re (mag W a) fun i k => p.mg x (t0 + i) k :=
  ((ha.trunc.lin hW.wMag hW.bMag).logistic.mul (Re.const _ (by decide))).congr fun i k => by rw [c32_five]; rfl
/-- The sub-chunk's query offset is the specification's. -/
theorem qz_re (hW : Holds W p) (ha : Re a fun i k => x (t0 + i) k) : Re (qz W a) fun i k => p.qz x (t0 + i) k :=
  ha.trunc.lin hW.wQ hW.bQ
/-- The sub-chunk's initial angle is the specification's. -/
theorem phiInit_re (hW : Holds W p) (ha : Re a fun i k => x (t0 + i) k) : Re (phiInit W a) fun i k => p.phi0 x (t0 + i) k :=
  (ha.trunc.lin hW.wP1 hW.bP1).gelu.trunc.lin hW.wP2 hW.bP2
/-- The sub-chunk's angle is the specification's. -/
theorem phi_re (hW : Holds W p) (hv : Before v p x t0) (ha : Re a fun i k => x (t0 + i) k) :
    Re (phi W a v) fun i k => p.phi x (t0 + i) k :=
  (phiInit_re hW ha).add ((Re.prefixV hW.tri hv.om (omega_re hW ha)).mul ((hW.scale.cast _).abs.spreadRow _ (by decide)))
/-- What the rows add to the memory's real part is the specification's. -/
theorem tr_re (hW : Holds W p) (hv : Before v p x t0) (ha : Re a fun i k => x (t0 + i) k) :
    Re (tr W a v) fun i k => p.tr x (t0 + i) k := ((mag_re hW ha).mul ha).mul (phi_re hW hv ha).cosV
/-- What the rows add to the memory's imaginary part is the specification's. -/
theorem ti_re (hW : Holds W p) (hv : Before v p x t0) (ha : Re a fun i k => x (t0 + i) k) :
    Re (ti W a v) fun i k => p.ti x (t0 + i) k := ((mag_re hW ha).mul ha).mul (phi_re hW hv ha).sinV
/-- The reciprocal root of the magnitudes' sum is the specification's. -/
theorem invSq_re (hW : Holds W p) (hv : Before v p x t0) (ha : Re a fun i k => x (t0 + i) k) :
    Re (invSq W a v) fun i k => p.inv x (t0 + i) k :=
  ((Re.prefixV hW.tri hv.mag (mag_re hW ha)).add (Re.const _ (by decide))).rsqrt fun _ _ => p.under_pos x _ _
/-- The memory's real part is the specification's. -/
theorem mr_re (hW : Holds W p) (hv : Before v p x t0) (ha : Re a fun i k => x (t0 + i) k) :
    Re (mr W a v) fun i k => p.mr x (t0 + i) k := (Re.prefixV hW.tri hv.re (tr_re hW hv ha)).mul (invSq_re hW hv ha)
/-- The memory's imaginary part is the specification's. -/
theorem mi_re (hW : Holds W p) (hv : Before v p x t0) (ha : Re a fun i k => x (t0 + i) k) :
    Re (mi W a v) fun i k => p.mi x (t0 + i) k := (Re.prefixV hW.tri hv.im (ti_re hW hv ha)).mul (invSq_re hW hv ha)
/-- The query's angle is the specification's. -/
theorem phiQ_re (hW : Holds W p) (hv : Before v p x t0) (ha : Re a fun i k => x (t0 + i) k) :
    Re (phiQ W a v) fun i k => p.phiQ x (t0 + i) k := (phi_re hW hv ha).add (qz_re hW ha)
/-- The real part of what is read is the specification's. -/
theorem retR_re (hW : Holds W p) (hv : Before v p x t0) (ha : Re a fun i k => x (t0 + i) k) :
    Re (retR W a v) fun i k => p.retR x (t0 + i) k :=
  ((mr_re hW hv ha).mul (phiQ_re hW hv ha).cosV).add ((mi_re hW hv ha).mul (phiQ_re hW hv ha).sinV)
/-- The imaginary part of what is read is the specification's. -/
theorem retI_re (hW : Holds W p) (hv : Before v p x t0) (ha : Re a fun i k => x (t0 + i) k) :
    Re (retI W a v) fun i k => p.retI x (t0 + i) k :=
  ((mi_re hW hv ha).mul (phiQ_re hW hv ha).cosV).sub ((mr_re hW hv ha).mul (phiQ_re hW hv ha).sinV)
/-- The context's first quarter is the specification's. -/
theorem p0_re (hW : Holds W p) (hv : Before v p x t0) (ha : Re a fun i k => x (t0 + i) k) :
    Re (p0 W a v) fun i k => p.p0 x (t0 + i) k := ha.mul (phi_re hW hv ha).cosV
/-- The context's second quarter is the specification's. -/
theorem p1_re (hW : Holds W p) (hv : Before v p x t0) (ha : Re a fun i k => x (t0 + i) k) :
    Re (p1 W a v) fun i k => p.p1 x (t0 + i) k := ha.mul (phi_re hW hv ha).sinV

/-- The totals after the sub-chunk are the sums of the rows before its end. -/
theorem next_re (hW : Holds W p) (hv : Before v p x t0) (ha : Re a fun i k => x (t0 + i) k) : Before (next W a v) p x (t0 + 512) where
  om := Re.total hv.om (omega_re hW ha)
  re := Re.total hv.re (tr_re hW hv ha)
  im := Re.total hv.im (ti_re hW hv ha)
  mag := Re.total hv.mag (mag_re hW ha)

/-! The layer norm and the output layers, on four arrays. -/

variable {a0 a1 a2 a3 : FVec Ideal S512x512 .f32} {f : Fin 512 → Fin 4 → Fin 512 → ℝ}

/-- The kernel's mean over the four quarters is the specification's mean. -/
theorem mean_re (h0 : Re a0 fun i => f i 0) (h1 : Re a1 fun i => f i 1) (h2 : Re a2 fun i => f i 2) (h3 : Re a3 fun i => f i 3) :
    Re (p := 512) (q := 1) (Chunk.mean a0 a1 a2 a3) fun i _ => Spec.mean (f i) :=
  ((((h0.rowSum.add h1.rowSum).add h2.rowSum).add h3.rowSum).mul (Re.const _ (by decide))).congr fun i _ => by
    rw [c32_inv2048]; unfold Spec.mean; rw [Fin.sum_univ_four]; ring

/-- The kernel's mean of squares over the four quarters is the specification's. -/
theorem mean2_re (h0 : Re a0 fun i => f i 0) (h1 : Re a1 fun i => f i 1) (h2 : Re a2 fun i => f i 2) (h3 : Re a3 fun i => f i 3) :
    Re (p := 512) (q := 1) (Chunk.mean2 a0 a1 a2 a3) fun i _ => Spec.mean2 (f i) :=
  mean_re (f := fun i q k => f i q k * f i q k) (h0.mul h0) (h1.mul h1) (h2.mul h2) (h3.mul h3)

/-- The kernel's reciprocal deviation is that of the specification's variance. -/
theorem invStd_re (h0 : Re a0 fun i => f i 0) (h1 : Re a1 fun i => f i 1) (h2 : Re a2 fun i => f i 2) (h3 : Re a3 fun i => f i 3) :
    Re (p := 512) (q := 1) (Chunk.invStd a0 a1 a2 a3) fun i _ => (Real.sqrt (vari (f i) + c32 0x3727C5AC#32))⁻¹ := by
  have hm := mean_re h0 h1 h2 h3
  exact ((((mean2_re h0 h1 h2 h3).sub (hm.mul hm)).congr fun i _ => vari_eq (f i)).add (Re.const _ (by decide))).rsqrt fun i _ => vari_eps_pos _

/-- A quarter of the first output layer. -/
theorem Re.quarter {b : FVec Ideal S512x512 .f32} {w : Vec Ideal S512x1024 .bf16} {g : Fin 512 → Fin 512 → ℝ} {u : Fin 512 → Fin 1024 → ℝ}
    (hb : Re b g) (hw : Re (φ := .bf16) w u) : Re (Chunk.quarter b w) fun i j => ∑ k, g i k * u k j := hb.trunc.dotWide (hw.cast _)

/-- The first output layer is the layer on the normed rows. -/
theorem pre_re (hW : Holds W p) (h0 : Re a0 fun i => f i 0) (h1 : Re a1 fun i => f i 1) (h2 : Re a2 fun i => f i 2) (h3 : Re a3 fun i => f i 3) :
    Re (p := 512) (q := 1024) (Chunk.pre W a0 a1 a2 a3) fun i j => ∑ q, ∑ k, norm p.g p.lb (f i) q k * p.wO1 q k j + p.bO1 j := by
  have hs := invStd_re h0 h1 h2 h3
  have hm := mean_re h0 h1 h2 h3
  refine (((((((h0.quarter hW.wO1a).add (h1.quarter hW.wO1b)).add (h2.quarter hW.wO1c)).add (h3.quarter hW.wO1d)).mul
    (hs.spreadCol _ (by decide))).sub (((hm.mul hs).spreadCol _ (by decide)).mul ((hW.colsum.cast _).spreadRow _ (by decide)))).add
    ((hW.hbias.cast _).spreadRow _ (by decide))).congr fun i j => ?_
  rw [← fold_norm, Fin.sum_univ_four (f := fun q => ∑ k, f i q k * (p.wO1 q k j * p.g q k))]

/-- The second output layer and the residual. -/
theorem last_re (hW : Holds W p) {h : FVec Ideal S512x1024 .f32} {g : Fin 512 → Fin 512 → ℝ} {u : Fin 512 → Fin 1024 → ℝ} (ha : Re a g) (hh : Re h u) :
    Re (p := 512) (q := 512) (last W a h) fun i k => g i k + ∑ j, gl (u i j) * p.wO2 j k + p.bO2 k :=
  (ha.add (hh.gelu.trunc.dotBack (hW.wO2.cast _))).add ((hW.bO2.cast _).spreadRow _ (by decide))

/-- The sub-chunk's rows of the result. -/
theorem out_re (hW : Holds W p) (hv : Before v p x t0) (ha : Re a fun i k => x (t0 + i) k) :
    Re (p := 512) (q := 512) (out W a v) fun i k => p.result x (t0 + i) k :=
  last_re hW ha (pre_re (f := fun i => p.ctx x (t0 + i)) hW (p0_re hW hv ha) (p1_re hW hv ha) (retR_re hW hv ha) (retI_re hW hv ha))

end Sub

end Cert.Reals

end
-- ==== Proof.Arrays.lean ====
module

public import proofs.«01_k».proof.Proof.Reals

@[expose] public section

noncomputable section

/-! The eighteen arguments as arrays, and the real numbers that finite ones hold. -/

namespace Cert.Arrays

open Idealize.ShloMosaic Cert.KernelIdeal Cert.Spec Finset

/-- The arguments. -/
structure Arrays where
  x : FVec Ideal S4x8192x512 .f32
  wOm : FVec Ideal S512x512 .f32
  bOm : FVec Ideal S512 .f32
  wP1 : FVec Ideal S512x512 .f32
  bP1 : FVec Ideal S512 .f32
  wP2 : FVec Ideal S512x512 .f32
  bP2 : FVec Ideal S512 .f32
  scale : FVec Ideal S512 .f32
  wMag : FVec Ideal S512x512 .f32
  bMag : FVec Ideal S512 .f32
  wQ : FVec Ideal S512x512 .f32
  bQ : FVec Ideal S512 .f32
  g : FVec Ideal S2048 .f32
  lb : FVec Ideal S2048 .f32
  wO1 : FVec Ideal S2048x1024 .f32
  bO1 : FVec Ideal S1024 .f32
  wO2 : FVec Ideal S1024x512 .f32
  bO2 : FVec Ideal S512 .f32

/-- Every entry is a real number. -/
structure Arrays.Finite (A : Arrays) : Prop where
  x : ∀ i, A.x i = ((A.x i).toReal : EReal)
  wOm : ∀ i, A.wOm i = ((A.wOm i).toReal : EReal)
  bOm : ∀ i, A.bOm i = ((A.bOm i).toReal : EReal)
  wP1 : ∀ i, A.wP1 i = ((A.wP1 i).toReal : EReal)
  bP1 : ∀ i, A.bP1 i = ((A.bP1 i).toReal : EReal)
  wP2 : ∀ i, A.wP2 i = ((A.wP2 i).toReal : EReal)
  bP2 : ∀ i, A.bP2 i = ((A.bP2 i).toReal : EReal)
  scale : ∀ i, A.scale i = ((A.scale i).toReal : EReal)
  wMag : ∀ i, A.wMag i = ((A.wMag i).toReal : EReal)
  bMag : ∀ i, A.bMag i = ((A.bMag i).toReal : EReal)
  wQ : ∀ i, A.wQ i = ((A.wQ i).toReal : EReal)
  bQ : ∀ i, A.bQ i = ((A.bQ i).toReal : EReal)
  g : ∀ i, A.g i = ((A.g i).toReal : EReal)
  lb : ∀ i, A.lb i = ((A.lb i).toReal : EReal)
  wO1 : ∀ i, A.wO1 i = ((A.wO1 i).toReal : EReal)
  bO1 : ∀ i, A.bO1 i = ((A.bO1 i).toReal : EReal)
  wO2 : ∀ i, A.wO2 i = ((A.wO2 i).toReal : EReal)
  bO2 : ∀ i, A.bO2 i = ((A.bO2 i).toReal : EReal)

/-- Column `k` of quarter `q` among the 2048. -/
def col (q : Fin 4) (k : Fin 512) : Fin 2048 := ⟨512 * q.val + k.val, by omega⟩

/-- A sum over the 2048 columns, quarter by quarter. -/
theorem sum_col {M : Type} [AddCommMonoid M] (f : Fin 2048 → M) : ∑ r, f r = ∑ q, ∑ k, f (col q k) := by
  rw [← Fintype.sum_prod_type', ← (finProdFinEquiv (m := 4) (n := 512)).sum_comp]
  refine sum_congr rfl fun i _ => congrArg f (Fin.ext ?_)
  simp [col, finProdFinEquiv]; omega

/-- Every one of the 2048 columns is in a quarter. -/
theorem exists_col (r : Fin 2048) : ∃ q k, r = col q k :=
  ⟨⟨r.val / 512, by omega⟩, ⟨r.val % 512, by omega⟩, Fin.ext (by simp [col]; omega)⟩

/-- The parameters that the arguments hold. -/
def Arrays.params (A : Arrays) : Params where
  wOm i k := (A.wOm (ix2 i k)).toReal
  bOm k := (A.bOm (ix1 k)).toReal
  wP1 i k := (A.wP1 (ix2 i k)).toReal
  bP1 k := (A.bP1 (ix1 k)).toReal
  wP2 i k := (A.wP2 (ix2 i k)).toReal
  bP2 k := (A.bP2 (ix1 k)).toReal
  scale k := (A.scale (ix1 k)).toReal
  wMag i k := (A.wMag (ix2 i k)).toReal
  bMag k := (A.bMag (ix1 k)).toReal
  wQ i k := (A.wQ (ix2 i k)).toReal
  bQ k := (A.bQ (ix1 k)).toReal
  g q k := (A.g (ix1 (col q k))).toReal
  lb q k := (A.lb (ix1 (col q k))).toReal
  wO1 q k j := (A.wO1 (ix2 (col q k) j)).toReal
  bO1 j := (A.bO1 (ix1 j)).toReal
  wO2 j k := (A.wO2 (ix2 j k)).toReal
  bO2 k := (A.bO2 (ix1 k)).toReal

/-- The rows of `x` in one batch. -/
def Arrays.rows (A : Arrays) (b : Fin 4) (t : ℕ) (k : Fin 512) : ℝ :=
  if h : t < 8192 then (A.x (ix3 b ⟨t, h⟩ k)).toReal else 0

/-- A row inside the sequence is the argument's row. -/
theorem Arrays.rows_of_lt (A : Arrays) (b : Fin 4) (t : Fin 8192) (k : Fin 512) :
    A.rows b t.val k = (A.x (ix3 b t k)).toReal := dif_pos t.isLt

end Cert.Arrays

end
-- ==== Proof.Entry.lean ====
module

public import proofs.«01_k».proof.Proof.Link
public import proofs.«01_k».proof.Proof.Arrays
public import proofs.«01_k».proof.Proof.Gen.KernelIdeal.Value
public import Idealize.ShloMosaic.Lib.Claim
public import Idealize.ShloMosaic.Lib.IdealHost
public import Idealize.ShloMosaic.Lib.Pipeline.ValueKit

@[expose] public section

noncomputable section

/-! What the kernel's windows hold when the grid starts, read off the arguments. -/

namespace Cert.Entry

open Idealize.ShloMosaic Idealize.SL.Sem Idealize.ShloMosaic.TcCoe Cert.KernelIdeal Cert.KernelIdeal.Gen Cert.Arrays Cert.Reals Finset

variable (m : (ℓ : Loc nD τ sig) → Buf (Elt Ideal) ℓ) (c : Dev nD) (t : Fin cfg0.N)

/-- The kernel's arguments. -/
def args : Arrays where
  x := m ((c : Thread nD τ).loc main_arg0)
  wOm := m ((c : Thread nD τ).loc main_arg1)
  bOm := m ((c : Thread nD τ).loc main_arg2)
  wP1 := m ((c : Thread nD τ).loc main_arg3)
  bP1 := m ((c : Thread nD τ).loc main_arg4)
  wP2 := m ((c : Thread nD τ).loc main_arg5)
  bP2 := m ((c : Thread nD τ).loc main_arg6)
  scale := m ((c : Thread nD τ).loc main_arg7)
  wMag := m ((c : Thread nD τ).loc main_arg8)
  bMag := m ((c : Thread nD τ).loc main_arg9)
  wQ := m ((c : Thread nD τ).loc main_arg10)
  bQ := m ((c : Thread nD τ).loc main_arg11)
  g := m ((c : Thread nD τ).loc main_arg12)
  lb := m ((c : Thread nD τ).loc main_arg13)
  wO1 := m ((c : Thread nD τ).loc main_arg14)
  bO1 := m ((c : Thread nD τ).loc main_arg15)
  wO2 := m ((c : Thread nD τ).loc main_arg16)
  bO2 := m ((c : Thread nD τ).loc main_arg17)

/-- Where the windows' blocks lie at a point. -/
theorem idx : ∀ t : Fin cfg0.N, (win0_0.index t 0 = 0 ∧ win0_0.index t 1 = 0) ∧
    (win0_1.index t 0 = t.val / 4 ∧ win0_1.index t 1 = t.val % 4 ∧ win0_1.index t 2 = 0) ∧
    (win0_2.index t 0 = 0 ∧ win0_2.index t 1 = 0) ∧ (win0_3.index t 0 = 0 ∧ win0_3.index t 1 = 0) ∧
    (win0_4.index t 0 = 0 ∧ win0_4.index t 1 = 0) ∧ (win0_5.index t 0 = 0 ∧ win0_5.index t 1 = 0) ∧
    (win0_6.index t 0 = 0 ∧ win0_6.index t 1 = 0) ∧ (win0_7.index t 0 = 0 ∧ win0_7.index t 1 = 0) ∧
    (win0_8.index t 0 = 0 ∧ win0_8.index t 1 = 0) ∧ (win0_9.index t 0 = 0 ∧ win0_9.index t 1 = 0) ∧
    (win0_10.index t 0 = 0 ∧ win0_10.index t 1 = 0) ∧ (win0_11.index t 0 = 0 ∧ win0_11.index t 1 = 0) ∧
    (win0_12.index t 0 = 0 ∧ win0_12.index t 1 = 0) ∧ (win0_13.index t 0 = 0 ∧ win0_13.index t 1 = 0) ∧
    (win0_14.index t 0 = 0 ∧ win0_14.index t 1 = 0) ∧ (win0_15.index t 0 = 0 ∧ win0_15.index t 1 = 0) ∧
    (win0_16.index t 0 = 0 ∧ win0_16.index t 1 = 0) ∧ (win0_17.index t 0 = 0 ∧ win0_17.index t 1 = 0) := by decide +kernel

/-! The arrays that the host code leaves for the windows. -/

/-- The host prepares the triangle by comparing two iotas. -/
theorem host_tri : V m c main_call0_v1 = select (cmpi .sge (addi (iotaInDim S512x512 32 0) (broadcastInDim S512x512 ![] bcast_S_S512x512 (constantI S_ 32 0#32))) (iotaInDim S512x512 32 1))
    (broadcastInDim S512x512 ![] bcast_S_S512x512 (constant (F := Ideal) S_ .bf16 0x3F80#16))
    (broadcastInDim S512x512 ![] bcast_S_S512x512 (constant (F := Ideal) S_ .bf16 0x0000#16)) := by
  entry_read; rfl
/-- The window of the angular velocity's weights holds the argument. -/
theorem host_wOm : V m c main_call0_v10 = (args m c).wOm := by entry_read; rfl

/-- The window of the angular velocity's bias holds the argument as one row. -/
theorem host_bOm : V m c main_call0_v11 = shapeCast S1x512 (args m c).bOm shapeCasts_S512_S1x512 := by entry_read; rfl

/-- The window of the angle's first weights holds the argument. -/
theorem host_wP1 : V m c main_call0_v12 = (args m c).wP1 := by entry_read; rfl

/-- The window of the angle's first bias holds the argument as one row. -/
theorem host_bP1 : V m c main_call0_v13 = shapeCast S1x512 (args m c).bP1 shapeCasts_S512_S1x512 := by entry_read; rfl

/-- The window of the angle's second weights holds the argument. -/
theorem host_wP2 : V m c main_call0_v14 = (args m c).wP2 := by entry_read; rfl

/-- The window of the angle's second bias holds the argument as one row. -/
theorem host_bP2 : V m c main_call0_v15 = shapeCast S1x512 (args m c).bP2 shapeCasts_S512_S1x512 := by entry_read; rfl

/-- The window of the scale holds the argument as one row. -/
theorem host_scale : V m c main_call0_v16 = shapeCast S1x512 (args m c).scale shapeCasts_S512_S1x512 := by entry_read; rfl

/-- The window of the magnitude's weights holds the argument. -/
theorem host_wMag : V m c main_call0_v17 = (args m c).wMag := by entry_read; rfl

/-- The window of the magnitude's bias holds the argument as one row. -/
theorem host_bMag : V m c main_call0_v18 = shapeCast S1x512 (args m c).bMag shapeCasts_S512_S1x512 := by entry_read; rfl

/-- The window of the query's weights holds the argument. -/
theorem host_wQ : V m c main_call0_v19 = (args m c).wQ := by entry_read; rfl

/-- The window of the query's bias holds the argument as one row. -/
theorem host_bQ : V m c main_call0_v20 = shapeCast S1x512 (args m c).bQ shapeCasts_S512_S1x512 := by entry_read; rfl

/-- The window of the last weights holds the argument. -/
theorem host_wO2 : V m c main_call0_v22 = (args m c).wO2 := by entry_read; rfl

/-- The window of the last bias holds the argument as one row. -/
theorem host_bO2 : V m c main_call0_v23 = shapeCast S1x512 (args m c).bO2 shapeCasts_S512_S1x512 := by entry_read; rfl

/-- The first output layer's weights with the norm's gains multiplied in. -/
def gained (A : Arrays) : FVec Ideal S2048x1024 .f32 :=
  mulf A.wO1 (broadcastInDim S2048x1024 ![0, 1] bcast_S2048x1_S2048x1024_0_1 (broadcastInDim S2048x1 ![0] bcast_S2048_S2048x1_0 A.g))

/-- The window of the first output weights holds the weights times the layer norm's gain. -/
theorem host_wO1 : V m c main_call0_v21 = gained (args m c) := by entry_read; rfl

/-- The window of the column sums holds the sums of the gained weights' columns. -/
theorem host_colsum : V m c main_call0_v6 = shapeCast S1x1024
    (Host.reduceAdd (gained (args m c)) (constant (F := Ideal) S_ .f32 0x00000000#32) reducesTo_S2048x1024_S1024_d0 h_S_) shapeCasts_S1024_S1x1024 := by
  entry_read; rfl
/-- The window of the folded bias holds the layer norm's bias through the first output weights, plus the first output bias. -/
theorem host_hbias : V m c main_call0_v9 = shapeCast S1x1024
    (addf (Host.dotGeneral (φ₁ := .f32) (φ₂ := .f32) dot_S2048_S2048x1024_S1024_0_0_n_1_n_n none (args m c).lb (args m c).wO1) (args m c).bO1) shapeCasts_S1024_S1x1024 := by
  entry_read; rfl

/-- A gained weight is the weight times its row's gain, as real numbers. -/
theorem gained_apply {A : Arrays} (hA : A.Finite) (r : Fin 2048) (j : Fin 1024) :
    gained A (ix2 r j) = (((A.wO1 (ix2 r j)).toReal * (A.g (ix1 r)).toReal : ℝ) : EReal) := by
  have e : gained A (ix2 r j) = A.wO1 (ix2 r j) * A.g (ix1 r) := by
    unfold gained
    pointwise
  rw [e, hA.wO1, hA.g, ← EReal.coe_mul]
  simp only [EReal.toReal_coe]

/-- A column sum is the sum of the gained weights over the column. -/
theorem colsum_apply (A : Arrays) (i : Fin 1) (j : Fin 1024) :
    shapeCast S1x1024 (Host.reduceAdd (gained A) (constant (F := Ideal) S_ .f32 0x00000000#32) reducesTo_S2048x1024_S1024_d0 h_S_) shapeCasts_S1024_S1x1024 (ix2 i j) = ∑ r : Fin 2048, gained A (ix2 r j) := by
  pointwise

/-- A folded bias is the sum of the layer norm's biases times a column of weights, plus that column's bias. -/
theorem hbias_apply (A : Arrays) (i : Fin 1) (j : Fin 1024) :
    shapeCast S1x1024
    (addf (Host.dotGeneral (φ₁ := .f32) (φ₂ := .f32) dot_S2048_S2048x1024_S1024_0_0_n_1_n_n none A.lb A.wO1) A.bO1) shapeCasts_S1024_S1x1024 (ix2 i j) = ∑ r : Fin 2048, A.lb (ix1 r) * A.wO1 (ix2 r j) + A.bO1 (ix1 j) := by
  pointwise

/-- A vector laid as one row. -/
theorem row_apply (v : FVec Ideal S512 .f32) (i : Fin 1) (k : Fin 512) : shapeCast S1x512 v shapeCasts_S512_S1x512 (ix2 i k) = v (ix1 k) := by
  pointwise

/-- The triangle has ones on and below the diagonal and zeros above it. -/
theorem tri_apply (i j : Fin 512) : (select (cmpi .sge (addi (iotaInDim S512x512 32 0) (broadcastInDim S512x512 ![] bcast_S_S512x512 (constantI S_ 32 0#32))) (iotaInDim S512x512 32 1))
    (broadcastInDim S512x512 ![] bcast_S_S512x512 (constant (F := Ideal) S_ .bf16 0x3F80#16))
    (broadcastInDim S512x512 ![] bcast_S_S512x512 (constant (F := Ideal) S_ .bf16 0x0000#16))) (ix2 i j) = ((if j ≤ i then 1 else 0 : ℝ) : EReal) := by
  pointwise
  have e : IntOp.cmpi CmpIPredicate.sge (IntOp.addi (BitVec.ofNat 32 i.val) 0#32) (BitVec.ofNat 32 j.val) = BitVec.ofBool (decide (j ≤ i)) := by
    show BitVec.ofBool ((BitVec.ofNat 32 j.val).sle (BitVec.ofNat 32 i.val + 0#32)) = _
    rw [BitVec.add_zero]
    refine congrArg BitVec.ofBool ?_
    rw [BitVec.sle_eq_decide]
    refine decide_eq_decide.2 ?_
    have hn : ∀ n : Fin 512, (BitVec.ofNat 32 n.val).toInt = n.val := fun n => by
      rw [BitVec.toInt_eq_toNat_cond, BitVec.toNat_ofNat]
      have := n.isLt
      split <;> omega
    rw [hn, hn, Fin.le_def, Nat.cast_le]
  rw [e]
  by_cases h : j ≤ i <;> simp [Scalar.select, h]

/-! The blocks of the windows, and the parameters that they hold. -/

variable {m c}

/-- A vector of real numbers laid out as one row is a row of those real numbers. -/
theorem row_re {v : FVec Ideal S512 .f32} (hv : ∀ i, v i = ((v i).toReal : EReal)) {w : FVec Ideal S1x512 .f32}
    (h : ∀ (i : Fin 1) (k : Fin 512), w (ix2 i k) = shapeCast S1x512 v shapeCasts_S512_S1x512 (ix2 i k)) : Re (φ := .f32) w fun _ k => (v (ix1 k)).toReal := fun i k => by
  rw [h, row_apply, ← hv]

/-- A quarter of the first output layer's weights. -/
theorem quarter_re {A : Arrays} (hA : A.Finite) {w : Vec Ideal S2048x1024 .bf16} (h : ∀ (r : Fin 2048) (j : Fin 1024), w (ix2 r j) = gained A (ix2 r j)) (q : Fin 4) {o : ℕ}
    (ho : o = 512 * q.val) (hi) : Re (φ := .bf16) (Link.quarterAt w o hi) fun k j => A.params.wO1 q k j * A.params.g q k := fun k j => by
  subst ho
  have e : Link.quarterAt w (512 * q.val) hi (ix2 k j) = w (ix2 (col q k) j) := by
    refine congrArg w (funext fun a => Fin.ext ?_)
    match a with
    | ⟨0, _⟩ => show 512 * q.val + 1 * k.val = 512 * q.val + k.val; omega
    | ⟨1, _⟩ => show 0 + 1 * j.val = j.val; omega
  rw [e, h, gained_apply hA]
  rfl

/-- The block of gained weights is the whole array of them. -/
theorem block13 (r : Fin 2048) (j : Fin 1024) : iblk m c 13 t (ix2 r j) = gained (args m c) (ix2 r j) := by
  rw [← host_wO1]
  blk_ext [iblk, idx t]

set_option maxHeartbeats 2000000 in
/-- The weights of a point's sub-chunks hold the parameters of the arguments. -/
theorem holds (hA : (args m c).Finite) : Holds (Link.weights m c t) (args m c).params where
  tri := fun i j => by
    rw [← tri_apply, ← host_tri m c]
    show iblk m c 0 t (ix2 i j) = _
    blk_ext [iblk, idx t]
  wOm := fun i k => by
    refine Eq.trans ?_ (hA.wOm (ix2 i k))
    rw [← host_wOm m c]
    show iblk m c 2 t (ix2 i k) = _
    blk_ext [iblk, idx t]
  wP1 := fun i k => by
    refine Eq.trans ?_ (hA.wP1 (ix2 i k))
    rw [← host_wP1 m c]
    show iblk m c 4 t (ix2 i k) = _
    blk_ext [iblk, idx t]
  wP2 := fun i k => by
    refine Eq.trans ?_ (hA.wP2 (ix2 i k))
    rw [← host_wP2 m c]
    show iblk m c 6 t (ix2 i k) = _
    blk_ext [iblk, idx t]
  wMag := fun i k => by
    refine Eq.trans ?_ (hA.wMag (ix2 i k))
    rw [← host_wMag m c]
    show iblk m c 9 t (ix2 i k) = _
    blk_ext [iblk, idx t]
  wQ := fun i k => by
    refine Eq.trans ?_ (hA.wQ (ix2 i k))
    rw [← host_wQ m c]
    show iblk m c 11 t (ix2 i k) = _
    blk_ext [iblk, idx t]
  wO2 := fun i k => by
    refine Eq.trans ?_ (hA.wO2 (ix2 i k))
    rw [← host_wO2 m c]
    show iblk m c 16 t (ix2 i k) = _
    blk_ext [iblk, idx t]
  bOm := row_re hA.bOm fun i k => by
    rw [← host_bOm m c]
    show iblk m c 3 t (ix2 i k) = _
    blk_ext [iblk, idx t]
  bP1 := row_re hA.bP1 fun i k => by
    rw [← host_bP1 m c]
    show iblk m c 5 t (ix2 i k) = _
    blk_ext [iblk, idx t]
  bP2 := row_re hA.bP2 fun i k => by
    rw [← host_bP2 m c]
    show iblk m c 7 t (ix2 i k) = _
    blk_ext [iblk, idx t]
  scale := row_re hA.scale fun i k => by
    rw [← host_scale m c]
    show iblk m c 8 t (ix2 i k) = _
    blk_ext [iblk, idx t]
  bMag := row_re hA.bMag fun i k => by
    rw [← host_bMag m c]
    show iblk m c 10 t (ix2 i k) = _
    blk_ext [iblk, idx t]
  bQ := row_re hA.bQ fun i k => by
    rw [← host_bQ m c]
    show iblk m c 12 t (ix2 i k) = _
    blk_ext [iblk, idx t]
  bO2 := row_re hA.bO2 fun i k => by
    rw [← host_bO2 m c]
    show iblk m c 17 t (ix2 i k) = _
    blk_ext [iblk, idx t]
  wO1a := quarter_re hA (block13 t) 0 rfl _
  wO1b := quarter_re hA (block13 t) 1 rfl _
  wO1c := quarter_re hA (block13 t) 2 rfl _
  wO1d := quarter_re hA (block13 t) 3 rfl _
  colsum := fun i j => by
    have e : iblk m c 14 t (ix2 i j) = V m c main_call0_v6 (ix2 i j) := by blk_ext [iblk, idx t]
    refine e.trans ?_
    rw [host_colsum, colsum_apply, sum_col]
    simp only [gained_apply hA, coe_sum]
    rfl
  hbias := fun i j => by
    have e : iblk m c 15 t (ix2 i j) = V m c main_call0_v9 (ix2 i j) := by blk_ext [iblk, idx t]
    refine e.trans ?_
    rw [host_hbias, hbias_apply, sum_col, hA.bO1, EReal.coe_add]
    refine congrArg₂ (· + ·) ?_ rfl
    rw [← coe_sum]
    refine sum_congr rfl fun q _ => ?_
    rw [← coe_sum]
    refine sum_congr rfl fun k _ => ?_
    rw [hA.lb, hA.wO1, ← EReal.coe_mul]
    rfl

/-- 512 rows of a point's block of `x`. -/
theorem rows_re (hA : (args m c).Finite) (b : Fin 4) (hb : t.val / 4 = b.val) {o : ℕ} (hi) :
    Re (Link.rowsAt (iblk m c 1 t) o hi) fun i k => (args m c).rows b (2048 * (t.val % 4) + o + i.val) k := fun i k => by
  have ho : o + 512 ≤ 2048 := hi 1
  have e : Link.rowsAt (iblk m c 1 t) o hi (ix2 i k) = iblk m c 1 t (ix3 (0 : Fin 1) (⟨o + i.val, by omega⟩ : Fin 2048) k) := by
    unfold Link.rowsAt
    rw [shapeCast_dropUnit_apply]
    refine congrArg (iblk m c 1 t) (funext fun a => Fin.ext ?_)
    match a with
    | ⟨0, _⟩ => rfl
    | ⟨1, _⟩ => show o + 1 * i.val = o + i.val; omega
    | ⟨2, _⟩ => show 0 + 1 * k.val = k.val; omega
  have e2 : iblk m c 1 t (ix3 (0 : Fin 1) (⟨o + i.val, by omega⟩ : Fin 2048) k) =
      m ((c : Thread nD τ).loc main_arg0) (ix3 b (⟨2048 * (t.val % 4) + o + i.val, by omega⟩ : Fin 8192) k) := by
    blk_ext [iblk, idx t]
  rw [e, e2]
  exact (hA.x _).trans (congrArg _ (Arrays.rows_of_lt _ b ⟨2048 * (t.val % 4) + o + i.val, by omega⟩ k).symm)

end Cert.Entry

end
-- ==== Proof.Finite.lean ====
module

public import proofs.«01_k».proof.Defs
public import proofs.«01_k».proof.Proof.Entry

@[expose] public section

noncomputable section

/-! The precondition: the arguments are arrays of real numbers. -/

namespace Cert.Finite

open Idealize.ShloMosaic Idealize.ShloMosaic.TcCoe

/-- The side conditions that the precondition states. -/
theorem facts : Cert.Pre_finite.Facts where
  bcast_S_S4x8192x512 := by decide
  bcast_S_S512x512 := by decide
  bcast_S_S512 := by decide
  bcast_S_S2048 := by decide
  bcast_S_S2048x1024 := by decide
  bcast_S_S1024 := by decide
  bcast_S_S1024x512 := by decide

/-- A number whose magnitude is less than infinity is a real number. -/
theorem real_of_lt (x : EReal)
    (h : FloatOps.cmpf (F := Ideal) (φ := .f32) .olt (max x (-x)) (Ideal.ofBits .f32 0x7F800000#32) = 1#1) : x = (x.toReal : EReal) := by
  have e : Ideal.ofBits .f32 0x7F800000#32 = ⊤ := by simp [Ideal.ofBits, Ideal.ieee]
  rw [e] at h
  have hlt : max x (-x) < ⊤ := by
    by_contra hn
    have h' : BitVec.ofBool (decide (max x (-x) < ⊤)) = 1#1 := h
    rw [decide_eq_false hn] at h'
    exact absurd h' (by decide)
  refine (EReal.coe_toReal ?_ ?_).symm
  · rintro rfl; simp at hlt
  · rintro rfl; simp at hlt

/-- An array whose entries the precondition bounds is one of real numbers. -/
theorem real_of_bound {s : Shape} (a : FVec Ideal s .f32) (h : Cert.Pre_finite.S_.BroadcastsInDim s (![] : Fin 0 → Fin s.rank))
    (e : cmpf .olt (Host.absf a) (broadcastInDim s ![] h (constant (F := Ideal) Cert.Pre_finite.S_ .f32 0x7F800000#32)) = fun _ => 1#1) :
    ∀ i, a i = ((a i).toReal : EReal) := fun i => real_of_lt _ (congrFun e i)

/-- Under the precondition every entry of every argument is a real number. -/
theorem args_finite (m : (ℓ : Loc Cert.KernelIdeal.nD Cert.KernelIdeal.τ Cert.KernelIdeal.sig) → Buf (Elt Ideal) ℓ)
    (hpre : Cert.Pre_KernelIdeal_finite (hPre_finite := facts) m) (c : Dev Cert.KernelIdeal.nD) : (Entry.args m c).Finite := by
  obtain ⟨h0, h1, h2, h3, h4, h5, h6, h7, h8, h9, h10, h11, h12, h13, h14, h15, h16, h17⟩ := hpre c
  exact ⟨real_of_bound _ _ h0, real_of_bound _ _ h1, real_of_bound _ _ h2, real_of_bound _ _ h3, real_of_bound _ _ h4,
    real_of_bound _ _ h5, real_of_bound _ _ h6, real_of_bound _ _ h7, real_of_bound _ _ h8, real_of_bound _ _ h9,
    real_of_bound _ _ h10, real_of_bound _ _ h11, real_of_bound _ _ h12, real_of_bound _ _ h13, real_of_bound _ _ h14,
    real_of_bound _ _ h15, real_of_bound _ _ h16, real_of_bound _ _ h17⟩

end Cert.Finite

end
-- ==== Proof.Fold.lean ====
module

public import proofs.«01_k».proof.Proof.Entry

@[expose] public section

noncomputable section

/-! The kernel's result at real numbers: the totals carried from point to point are the sums of the batch's earlier rows, so
    every row of the result is the specification's. -/

namespace Cert.Fold

open Idealize.ShloMosaic Idealize.SL.Sem Idealize.ShloMosaic.TcCoe Cert.KernelIdeal Cert.KernelIdeal.Gen Cert.Arrays Cert.Reals Cert.Spec
open Cert.Chunk (Totals next out)
open Cert.Link (block prev zeros tot1 tot2 tot3 tot4)

/-- A piece of 512 rows, read at one of its rows. -/
theorem piece_hit (o : ℕ) (h) (a : FVec Ideal S512x512 .f32) (L) (i : Fin 2048) (k : Fin 512) (j : Fin 512) (hj : i.val = o + j.val) :
    View.canon (Val := Elt Ideal) (s := S1x2048x512) (e := .f32) (⟨Rect.unit (s := S1x2048x512) ![0, o, 0] S1x512x512.size h, shapeCast S1x512x512 a shapeCasts_S512x512_S1x512x512⟩ :: L)
      (ix3 (0 : Fin 1) i k) = a (ix2 j k) := by
  have e : (ix3 (0 : Fin 1) i k : S1x2048x512.Idx) = (Rect.unit (s := S1x2048x512) ![0, o, 0] S1x512x512.size h).emb (ix3 (0 : Fin 1) j k) := by
    funext a
    refine Fin.ext ?_
    match a with
    | ⟨0, _⟩ => rfl
    | ⟨1, _⟩ => show i.val = o + 1 * j.val; omega
    | ⟨2, _⟩ => show k.val = 0 + 1 * k.val; omega
  rw [e, View.canon_cons_emb, shapeCast_addUnit_apply]
  refine congrArg a (funext fun b => ?_)
  match b with
  | ⟨0, _⟩ => rfl
  | ⟨1, _⟩ => rfl

/-- A piece of 512 rows leaves the other rows alone. -/
theorem piece_miss (o : ℕ) (h) (w) (L) (i : Fin 2048) (k : Fin 512) (hi : i.val < o) :
    View.canon (Val := Elt Ideal) (s := S1x2048x512) (e := .f32) (⟨Rect.unit (s := S1x2048x512) ![0, o, 0] S1x512x512.size h, w⟩ :: L)
      (ix3 (0 : Fin 1) i k) = View.canon L (ix3 (0 : Fin 1) i k) := by
  refine View.canon_cons_of_not_mem _ _ fun hm => ?_
  have h2 : o ≤ i.val := ((Rect.mem_set_unit (inb := h)).1 hm (1 : Fin 3)).1
  omega

/-- The totals that a batch starts from. -/
theorem zeros_before (p : Params) (x : ℕ → Fin 512 → ℝ) : Before zeros p x 0 where
  om := fun _ _ => Ideal.ofBits_zero_f32
  re := fun _ _ => Ideal.ofBits_zero_f32
  im := fun _ _ => Ideal.ofBits_zero_f32
  mag := fun _ _ => Ideal.ofBits_zero_f32

variable {m : (ℓ : Loc nD τ sig) → Buf (Elt Ideal) ℓ} {c : Dev nD}

section Point

variable {t : Fin cfg0.N} {b : Fin 4} {v : Totals Ideal} (hA : (Entry.args m c).Finite) (hb : t.val / 4 = b.val)
  (hv : Before v (Entry.args m c).params ((Entry.args m c).rows b) (2048 * (t.val % 4)))

include hA hb hv

/-- After the first sub-chunk the totals are the sums of the rows before the second. -/
theorem tot1_before : Before (tot1 m c t v) (Entry.args m c).params ((Entry.args m c).rows b) (2048 * (t.val % 4) + 512) :=
  next_re (Entry.holds t hA) hv (Entry.rows_re t hA b hb _)
/-- After the second sub-chunk the totals are the sums of the rows before the third. -/
theorem tot2_before : Before (tot2 m c t v) (Entry.args m c).params ((Entry.args m c).rows b) (2048 * (t.val % 4) + 1024) :=
  next_re (Entry.holds t hA) (tot1_before hA hb hv) (Entry.rows_re t hA b hb _)
/-- After the third sub-chunk the totals are the sums of the rows before the fourth. -/
theorem tot3_before : Before (tot3 m c t v) (Entry.args m c).params ((Entry.args m c).rows b) (2048 * (t.val % 4) + 1536) :=
  next_re (Entry.holds t hA) (tot2_before hA hb hv) (Entry.rows_re t hA b hb _)
/-- After the fourth sub-chunk the totals are the sums of the rows before the next grid point. -/
theorem tot4_before : Before (tot4 m c t v) (Entry.args m c).params ((Entry.args m c).rows b) (2048 * (t.val % 4) + 2048) :=
  next_re (Entry.holds t hA) (tot3_before hA hb hv) (Entry.rows_re t hA b hb _)

/-- A point's block of the result. -/
theorem block_apply (i : Fin 2048) (k : Fin 512) :
    block m c t v (ix3 (0 : Fin 1) i k) = (((Entry.args m c).params.result ((Entry.args m c).rows b) (2048 * (t.val % 4) + i.val) k : ℝ) : EReal) := by
  unfold block Link.rows0 Link.rows1 Link.rows2 Link.rows3
  by_cases h3 : 1536 ≤ i.val
  · rw [piece_hit _ _ _ _ _ _ ⟨i.val - 1536, by omega⟩ (by show _ = 1536 + (i.val - 1536); omega),
      out_re (Entry.holds t hA) (tot3_before hA hb hv) (Entry.rows_re t hA b hb _)]
    dsimp only
    rw [show 2048 * (t.val % 4) + 1536 + (i.val - 1536) = 2048 * (t.val % 4) + i.val by omega]
  rw [piece_miss _ _ _ _ _ _ (by omega)]
  by_cases h2 : 1024 ≤ i.val
  · rw [piece_hit _ _ _ _ _ _ ⟨i.val - 1024, by omega⟩ (by show _ = 1024 + (i.val - 1024); omega),
      out_re (Entry.holds t hA) (tot2_before hA hb hv) (Entry.rows_re t hA b hb _)]
    dsimp only
    rw [show 2048 * (t.val % 4) + 1024 + (i.val - 1024) = 2048 * (t.val % 4) + i.val by omega]
  rw [piece_miss _ _ _ _ _ _ (by omega)]
  by_cases h1 : 512 ≤ i.val
  · rw [piece_hit _ _ _ _ _ _ ⟨i.val - 512, by omega⟩ (by show _ = 512 + (i.val - 512); omega),
      out_re (Entry.holds t hA) (tot1_before hA hb hv) (Entry.rows_re t hA b hb _)]
    dsimp only
    rw [show 2048 * (t.val % 4) + 512 + (i.val - 512) = 2048 * (t.val % 4) + i.val by omega]
  rw [piece_miss _ _ _ _ _ _ (by omega), piece_hit _ _ _ _ _ _ ⟨i.val, by omega⟩ (by show _ = 0 + i.val; omega),
    out_re (Entry.holds t hA) hv (Entry.rows_re t hA b hb _)]

end Point

/-- After a point the totals are the sums of its batch's rows up to the point's last. -/
theorem prev_before (hA : (Entry.args m c).Finite) : ∀ (n : ℕ) (h : n < cfg0.N) (b : Fin 4), n / 4 = b.val →
    Before (prev m c n h) (Entry.args m c).params ((Entry.args m c).rows b) (2048 * (n % 4) + 2048) := by
  intro n
  induction n using Nat.strong_induction_on with
  | _ n ih =>
    intro h b hb
    by_cases h0 : n % 4 = 0
    · have e := Link.totals_A m c (⟨n, h⟩ : Fin cfg0.N) h0
      refine e ▸ tot4_before hA hb ?_
      show Before zeros _ _ (2048 * (n % 4))
      rw [h0]
      exact zeros_before _ _
    · have e := Link.totals_B m c (⟨n, h⟩ : Fin cfg0.N) h0
      refine e ▸ tot4_before hA hb ?_
      have i := ih (n - 1) (by omega) (by omega) b (by omega)
      rwa [show 2048 * ((n - 1) % 4) + 2048 = 2048 * (n % 4) by omega] at i

/-- The kernel's result, entry by entry. -/
theorem value (hA : (Entry.args m c).Finite) (b : Fin 4) (s : Fin 8192) (d : Fin 512) :
    Value.G18 m c (ix3 b s d) = (((Entry.args m c).params.result ((Entry.args m c).rows b) s.val d : ℝ) : EReal) := by
  have hp : Value.pt18Of (ix3 b s d) = 4 * b.val + s.val / 2048 := by
    show 4 * (b.val / 1 - 0) + 1 * (s.val / 2048 - 0) + 1 * (d.val / 512 - 0) = _
    have := d.isLt
    omega
  have hN : Value.pt18Of (ix3 b s d) < cfg0.N := by
    rw [hp]; show _ < 16; omega
  unfold Value.G18
  rw [dif_pos hN, ← Value.outsAt0_sweep m c _ hN]
  have hl : Value.loc18Of (ix3 b s d) = ix3 (0 : Fin 1) (⟨s.val % 2048, by omega⟩ : Fin 2048) d := by
    funext a
    refine Fin.ext ?_
    match a with
    | ⟨0, _⟩ => show b.val % 1 = 0; omega
    | ⟨1, _⟩ => rfl
    | ⟨2, _⟩ => show d.val % 512 = d.val; omega
  rw [hl]
  have key : ∀ (t : Fin cfg0.N), t.val = 4 * b.val + s.val / 2048 →
      (outsAt0 m c t.val t.isLt).1 (ix3 (0 : Fin 1) (⟨s.val % 2048, by omega⟩ : Fin 2048) d)
        = (((Entry.args m c).params.result ((Entry.args m c).rows b) s.val d : ℝ) : EReal) := by
    intro t ht
    have hs : 2048 * (t.val % 4) + s.val % 2048 = s.val := by omega
    by_cases h0 : t.val % 4 = 0
    · rw [Link.block_A m c t h0, block_apply hA (b := b) (by omega) (by rw [h0]; exact zeros_before _ _)]
      show ((Spec.Params.result _ _ (2048 * (t.val % 4) + s.val % 2048) d : ℝ) : EReal) = _
      rw [hs]
    · have i := prev_before hA (t.val - 1) (by omega) b (by omega)
      rw [show 2048 * ((t.val - 1) % 4) + 2048 = 2048 * (t.val % 4) by omega] at i
      rw [Link.block_B m c t h0, block_apply hA (b := b) (by omega) i]
      show ((Spec.Params.result _ _ (2048 * (t.val % 4) + s.val % 2048) d : ℝ) : EReal) = _
      rw [hs]
  exact key ⟨_, hN⟩ hp

end Cert.Fold

end
-- ==== Proof.Host.lean ====
module

public import proofs.«01_k».proof.ReferenceIdeal
public import proofs.«01_k».proof.Proof.Gen.ReferenceIdeal.Read
public import proofs.«01_k».proof.Proof.Reals
public import Idealize.ShloMosaic.Lib.Pipeline.Value
public import Idealize.ShloMosaic.Lib.Pointwise
public import Idealize.ShloMosaic.Lib.IdealHost

@[expose] public section

noncomputable section

/-! The reference's host operations on arrays whose entries are real numbers. -/

namespace Cert.HostReals

open Idealize.ShloMosaic Cert.ReferenceIdeal Cert.ReferenceIdeal.Gen Cert.Spec Finset

/-- The array's entries are the real numbers `f b s k`. -/
def R3 {n : ℕ} (a : FVec Ideal ⟨3, ![4, 8192, n]⟩ .f32) (f : Fin 4 → ℕ → Fin n → ℝ) : Prop :=
  ∀ (b : Fin 4) (s : Fin 8192) (k : Fin n), a (ix3 b s k) = ((f b s.val k : ℝ) : EReal)

/-! ## A running sum -/

/-- Adding a list's values one by one to a start is the start plus their sum. -/
theorem foldl_sum {β : Type} (g : β → EReal) (L : List β) (v : EReal) : L.foldl (fun r n => r + g n) v = v + (L.map g).sum := by
  induction L generalizing v with
  | nil => simp
  | cons a L ih => rw [List.foldl_cons, ih, List.map_cons, List.sum_cons, add_assoc]

/-- A sum over the positions of the window. -/
theorem sum_window (G : (⟨3, ![1, 8192, 1]⟩ : Shape).Idx → EReal) :
    ∑ q, G q = ∑ w : Fin 8192, G (ix3 (0 : Fin 1) w (0 : Fin 1)) := by
  refine (Fintype.sum_bijective (fun w : Fin 8192 => (ix3 (0 : Fin 1) w (0 : Fin 1) : (⟨3, ![1, 8192, 1]⟩ : Shape).Idx)) ⟨?_, ?_⟩ _ _ fun _ => rfl).symm
  · intro a b h
    exact congrFun h (1 : Fin 3)
  · intro i
    refine ⟨i 1, funext fun a => ?_⟩
    match a with
    | ⟨0, _⟩ => exact (Subsingleton.elim (α := Fin 1) _ _)
    | ⟨1, _⟩ => rfl
    | ⟨2, _⟩ => exact (Subsingleton.elim (α := Fin 1) _ _)

/-- The positions of a window that lie inside the operand are its first rows. -/
theorem sum_inside (f : ℕ → EReal) (s : ℕ) (hs : s < 8192) :
    (∑ w : Fin 8192, if 8191 ≤ s + w.val then f (s + w.val - 8191) else 0) = ∑ u ∈ range (s + 1), f u := by
  rw [Fin.sum_univ_eq_sum_range (fun w => if 8191 ≤ s + w then f (s + w - 8191) else 0) 8192,
    show 8192 = (8191 - s) + (s + 1) by omega, sum_range_add]
  rw [sum_eq_zero fun w hw => if_neg (by have := mem_range.1 hw; omega), zero_add]
  refine sum_congr rfl fun u hu => ?_
  rw [if_pos (by omega)]
  exact congrArg f (by omega)

/-- The host's window sum, when it starts from zero, as one sum over the window's positions. -/
theorem window_apply {s t u : Shape} (window strides lo hi : Fin s.rank → ℕ) (x : FVec Ideal s .f32) (v : FVec Ideal u .f32)
    (h : s.ReduceWindows window strides lo hi t) (hu : 0 < u.numel) (hv : v (Shape.Idx.first hu) = 0) (j : t.Idx) :
    Host.reduceWindowAdd window strides lo hi x v h hu j
      = ∑ q : (⟨s.rank, window⟩ : Shape).Idx,
          if hin : ∀ a, lo a ≤ (j (a.cast h.1.symm)).val * strides a + (q a).val ∧ (j (a.cast h.1.symm)).val * strides a + (q a).val - lo a < s.size a
          then x (fun a => ⟨(j (a.cast h.1.symm)).val * strides a + (q a).val - lo a, (hin a).2⟩) else 0 := by
  show Ideal.hostReduceWindowAdd window strides lo hi h x (v (Shape.Idx.first hu)) j = _
  rw [hv]
  unfold Ideal.hostReduceWindowAdd Host.reduceWindow
  dsimp only
  refine (foldl_sum _ _ _).trans ?_
  rw [zero_add, ← Fin.sum_univ_def]
  exact Fintype.sum_equiv (⟨s.rank, window⟩ : Shape).rowMajor.symm _ _ fun _ => by congr

/-- The host's running sum along the second axis. -/
theorem running_sum (x : FVec Ideal S4x8192x512 .f32) (v : FVec Ideal S_ .f32) (hv : v (Shape.Idx.first h_S_) = 0) {f : Fin 4 → ℕ → Fin 512 → ℝ} (hx : R3 x f) :
    R3 (Host.reduceWindowAdd ![1, 8192, 1] ![1, 1, 1] ![0, 8191, 0] ![0, 0, 0] x v
      reduceWindows_S4x8192x512_S4x8192x512_w1s1p0_0_w8192s1p8191_0_w1s1p0_0 h_S_) fun b t k => Spec.pre (f b) t k := fun b s k => by
  rw [window_apply _ _ _ _ _ _ _ _ hv]
  refine (sum_window _).trans ?_
  dsimp only
  rw [Spec.pre, ← Reals.coe_sum, ← sum_inside (fun u => ((f b u k : ℝ) : EReal)) s.val s.isLt]
  refine sum_congr rfl fun w _ => ?_
  by_cases h : 8191 ≤ s.val + w.val
  · have hin : ∀ a : Fin 3, (![0, 8191, 0] : Fin 3 → ℕ) a ≤ ((ix3 b s k : S4x8192x512.Idx) a).val * (![1, 1, 1] : Fin 3 → ℕ) a + ((ix3 (0 : Fin 1) w (0 : Fin 1) : (⟨3, ![1, 8192, 1]⟩ : Shape).Idx) a).val
        ∧ ((ix3 b s k : S4x8192x512.Idx) a).val * (![1, 1, 1] : Fin 3 → ℕ) a + ((ix3 (0 : Fin 1) w (0 : Fin 1) : (⟨3, ![1, 8192, 1]⟩ : Shape).Idx) a).val - (![0, 8191, 0] : Fin 3 → ℕ) a < S4x8192x512.size a := fun a => by
      match a with
      | ⟨0, _⟩ => show 0 ≤ b.val * 1 + 0 ∧ b.val * 1 + 0 - 0 < 4; omega
      | ⟨1, _⟩ => show 8191 ≤ s.val * 1 + w.val ∧ s.val * 1 + w.val - 8191 < 8192; omega
      | ⟨2, _⟩ => show 0 ≤ k.val * 1 + 0 ∧ k.val * 1 + 0 - 0 < 512; omega
    rw [if_pos h]
    refine (dif_pos hin).trans ?_
    refine Eq.trans (congrArg x (funext fun a => Fin.ext ?_)) (hx b ⟨s.val + w.val - 8191, by omega⟩ k)
    match a with
    | ⟨0, _⟩ => show b.val * 1 + 0 - 0 = b.val; omega
    | ⟨1, _⟩ => show s.val * 1 + w.val - 8191 = s.val + w.val - 8191; omega
    | ⟨2, _⟩ => show k.val * 1 + 0 - 0 = k.val; omega
  · rw [if_neg h, dif_neg]
    intro hin
    have h1 : 8191 ≤ s.val * 1 + w.val := (hin 1).1
    omega

/-! ## Elementwise operations -/

section Elementwise

variable {n : ℕ} {a b : FVec Ideal ⟨3, ![4, 8192, n]⟩ .f32} {f g : Fin 4 → ℕ → Fin n → ℝ}

/-- Sums of real arrays are the real sums. -/
theorem R3.add (ha : R3 a f) (hb : R3 b g) : R3 (addf a b) fun b s k => f b s k + g b s k := fun i s k => by
  show a _ + b _ = _; rw [ha, hb, ← EReal.coe_add]
/-- Differences of real arrays are the real differences. -/
theorem R3.sub (ha : R3 a f) (hb : R3 b g) : R3 (subf a b) fun b s k => f b s k - g b s k := fun i s k => by
  show a _ - b _ = _; rw [ha, hb, ← EReal.coe_sub]
/-- Products of real arrays are the real products. -/
theorem R3.mul (ha : R3 a f) (hb : R3 b g) : R3 (mulf a b) fun b s k => f b s k * g b s k := fun i s k => by
  show a _ * b _ = _; rw [ha, hb, ← EReal.coe_mul]
/-- Quotients of real arrays are the real quotients, where no divisor is zero. -/
theorem R3.div (ha : R3 a f) (hb : R3 b g) (h : ∀ i (s : Fin 8192) k, g i s.val k ≠ 0) : R3 (Host.divf a b) fun b s k => f b s k / g b s k := fun i s k => by
  show Ideal.div (a _) (b _) = _
  rw [ha, hb, Ideal.div_coe (h i s k), ← EReal.coe_mul, mul_one_div]
/-- Negated real arrays are the real negations. -/
theorem R3.neg (ha : R3 a f) : R3 (Host.negf a) fun b s k => -f b s k := fun i s k => by
  show -(a _) = _; rw [ha, ← EReal.coe_neg]
/-- Exponentials of real arrays are the real exponentials. -/
theorem R3.exp (ha : R3 a f) : R3 (Host.exp a) fun b s k => Real.exp (f b s k) := fun i s k => by
  show Ideal.exp (a _) = _; rw [ha, Ideal.exp_coe]
/-- Hyperbolic tangents of real arrays are the real ones. -/
theorem R3.tanh (ha : R3 a f) : R3 (Host.tanh a) fun b s k => Real.tanh (f b s k) := fun i s k => by
  show Ideal.tanh (a _) = _; rw [ha, Ideal.tanh_coe]
/-- Roots of real arrays are the real roots, where no entry is negative. -/
theorem R3.sqrt (ha : R3 a f) (h : ∀ i (s : Fin 8192) k, 0 ≤ f i s.val k) : R3 (Host.sqrt a) fun b s k => Real.sqrt (f b s k) := fun i s k => by
  show Ideal.sqrt (a _) = _; rw [ha, Ideal.sqrt_coe, if_neg (h i s k).not_gt]
/-- The real numbers an array holds may be replaced by equal ones. -/
theorem R3.congr (ha : R3 a f) (h : ∀ i (s : Fin 8192) k, f i s.val k = g i s.val k) : R3 a g := fun i s k => by rw [ha, h]

/-- An array of one finite word holds that word's real number everywhere. -/
theorem R3.const (h : S_.BroadcastsInDim ⟨3, ![4, 8192, n]⟩ (![] : Fin 0 → Fin 3)) (w : BitVec 32) (hw : (w.extractLsb' 23 8).toNat ≠ 255) :
    R3 (broadcastInDim ⟨3, ![4, 8192, n]⟩ ![] h (constant (F := Ideal) S_ .f32 w)) fun _ _ _ => c32 w := fun _ _ _ => ofBits_eq w hw

end Elementwise

end Cert.HostReals

end
-- ==== Proof.Layers.lean ====
module

public import proofs.«01_k».proof.Proof.Host
public import proofs.«01_k».proof.Proof.Arrays

@[expose] public section

noncomputable section

/-! The reference's layers, as functions of arrays: each on arrays whose entries are real numbers. -/

namespace Cert.HostReals

open Idealize.ShloMosaic Cert.ReferenceIdeal Cert.ReferenceIdeal.Gen Cert.Spec Finset

section Elementwise
variable {n : ℕ} (h : S_.BroadcastsInDim ⟨3, ![4, 8192, n]⟩ (![] : Fin 0 → Fin 3))

/-- A constant in every entry. -/
def splat (w : BitVec 32) : FVec Ideal ⟨3, ![4, 8192, n]⟩ .f32 :=
  broadcastInDim ⟨3, ![4, 8192, n]⟩ ![] h (constant (F := Ideal) S_ .f32 w)

/-- An integer in every entry. -/
def splatI (w : BitVec 32) : IVec ⟨3, ![4, 8192, n]⟩ 32 := broadcastInDim ⟨3, ![4, 8192, n]⟩ ![] h (constantI S_ 32 w)

/-- The reference's gelu. -/
def gelu (t : FVec Ideal ⟨3, ![4, 8192, n]⟩ .f32) : FVec Ideal ⟨3, ![4, 8192, n]⟩ .f32 :=
  mulf t (mulf (splat h 0x3F000000#32) (addf (splat h 0x3F800000#32)
    (Host.tanh (mulf (splat h 0x3F4C422A#32) (addf t (mulf (splat h 0x3D372713#32) (mulf (mulf t t) t)))))))

/-- Five times the logistic function. -/
def sigm (t : FVec Ideal ⟨3, ![4, 8192, n]⟩ .f32) : FVec Ideal ⟨3, ![4, 8192, n]⟩ .f32 :=
  mulf (Host.divf (splat h 0x3F800000#32) (addf (splat h 0x3F800000#32) (Host.exp (Host.negf t)))) (splat h 0x40A00000#32)

/-- The number of quarter turns nearest to each angle. -/
def turns (p : FVec Ideal ⟨3, ![4, 8192, n]⟩ .f32) : IVec ⟨3, ![4, 8192, n]⟩ 32 :=
  fptosi 32 (Host.roundeven (mulf p (splat h 0x3F22F983#32)))

/-- The angles less their quarter turns. -/
def rest (p : FVec Ideal ⟨3, ![4, 8192, n]⟩ .f32) : FVec Ideal ⟨3, ![4, 8192, n]⟩ .f32 :=
  subf p (addf (mulf (sitofp .f32 (turns h p)) (splat h 0x3FC90FDB#32)) (mulf (sitofp .f32 (turns h p)) (splat h 0xB33BBD2E#32)))

/-- The sine's polynomial. -/
def polS (r : FVec Ideal ⟨3, ![4, 8192, n]⟩ .f32) : FVec Ideal ⟨3, ![4, 8192, n]⟩ .f32 :=
  addf r (mulf (mulf (mulf r r) r) (addf (splat h 0xBE2AAAA3#32)
    (mulf (mulf r r) (addf (splat h 0x3C08839E#32) (mulf (mulf r r) (splat h 0xB94CA1F9#32))))))

/-- The cosine's polynomial. -/
def polC (r : FVec Ideal ⟨3, ![4, 8192, n]⟩ .f32) : FVec Ideal ⟨3, ![4, 8192, n]⟩ .f32 :=
  addf (splat h 0x3F800000#32) (mulf (mulf r r) (addf (splat h 0xBF000000#32)
    (mulf (mulf r r) (addf (splat h 0x3D2AAAA5#32) (mulf (mulf r r) (splat h 0xBAB6061A#32))))))

/-- Where an angle is in the quadrant `w`. -/
def inQuad (p : FVec Ideal ⟨3, ![4, 8192, n]⟩ .f32) (w : BitVec 32) : IVec ⟨3, ![4, 8192, n]⟩ 1 :=
  cmpi .eq (andi (turns h p) (splatI h 3#32)) (splatI h w)

/-- The reference's sine. -/
def sine (p : FVec Ideal ⟨3, ![4, 8192, n]⟩ .f32) : FVec Ideal ⟨3, ![4, 8192, n]⟩ .f32 :=
  select (inQuad h p 0#32) (polS h (rest h p)) (select (inQuad h p 1#32) (polC h (rest h p))
    (select (inQuad h p 2#32) (Host.negf (polS h (rest h p))) (Host.negf (polC h (rest h p)))))

/-- The reference's cosine. -/
def cosine (p : FVec Ideal ⟨3, ![4, 8192, n]⟩ .f32) : FVec Ideal ⟨3, ![4, 8192, n]⟩ .f32 :=
  select (inQuad h p 0#32) (polC h (rest h p)) (select (inQuad h p 1#32) (Host.negf (polS h (rest h p)))
    (select (inQuad h p 2#32) (Host.negf (polC h (rest h p))) (polS h (rest h p))))

variable {h} {a : FVec Ideal ⟨3, ![4, 8192, n]⟩ .f32} {f : Fin 4 → ℕ → Fin n → ℝ}

/-- A splat of one finite word holds that word's real number everywhere. -/
theorem R3.splat (w : BitVec 32) (hw : (w.extractLsb' 23 8).toNat ≠ 255) : R3 (splat h w) fun _ _ _ => c32 w := R3.const h w hw

/-- The reference's gelu, in its tanh form, is the specification's. -/
theorem R3.gelu (ha : R3 a f) : R3 (gelu h a) fun b t k => gl (f b t k) := by
  refine (ha.mul ((R3.splat (h := h) 0x3F000000#32 (by decide)).mul ((R3.splat (h := h) 0x3F800000#32 (by decide)).add
    ((R3.splat (h := h) 0x3F4C422A#32 (by decide)).mul (ha.add ((R3.splat (h := h) 0x3D372713#32 (by decide)).mul
      ((ha.mul ha).mul ha)))).tanh))).congr fun b t k => ?_
  rw [c32_half, c32_one]; rfl

/-- The reference's magnitude is five times the logistic function. -/
theorem R3.sigm (ha : R3 a f) : R3 (sigm h a) fun b t k => (1 + Real.exp (-f b t k))⁻¹ * 5 := by
  refine (((R3.splat (h := h) 0x3F800000#32 (by decide)).div ((R3.splat (h := h) 0x3F800000#32 (by decide)).add ha.neg.exp) ?_).mul
    (R3.splat (h := h) 0x40A00000#32 (by decide))).congr fun b t k => ?_
  · intro b t k; rw [c32_one]; positivity
  · rw [c32_one, c32_five, one_div]

/-- The reference counts the specification's number of quarter turns. -/
theorem turns_apply (ha : R3 a f) (b : Fin 4) (t : Fin 8192) (k : Fin n) :
    turns h a (ix3 b t k) = Spec.turns (f b t.val k) := by
  have e := ha.mul (R3.splat (h := h) 0x3F22F983#32 (by decide)) b t k
  show Ideal.fptosi 32 (Ideal.liftRound Ideal.roundHalfEven (mulf a (HostReals.splat h 0x3F22F983#32) (ix3 b t k))) = _
  rw [e, Ideal.liftRound_coe]; rfl

/-- What the reference leaves of the angle is the specification's remainder. -/
theorem R3.rest (ha : R3 a f) : R3 (rest h a) fun b t k => Spec.rest (f b t k) := by
  have hn : R3 (sitofp (F := Ideal) .f32 (HostReals.turns h a)) fun b t k => ((Spec.turns (f b t k)).toInt : ℝ) := fun b t k => by
    show (((HostReals.turns h a (ix3 b t k)).toInt : ℝ) : EReal) = _; rw [turns_apply ha]
  exact ha.sub ((hn.mul (R3.splat _ (by decide))).add (hn.mul (R3.splat _ (by decide))))

/-- The reference's sine polynomial is the specification's. -/
theorem R3.polS (ha : R3 a f) : R3 (polS h a) fun b t k => Spec.polS (f b t k) :=
  ha.add (((ha.mul ha).mul ha).mul ((R3.splat _ (by decide)).add ((ha.mul ha).mul ((R3.splat _ (by decide)).add
    ((ha.mul ha).mul (R3.splat _ (by decide)))))))

/-- The reference's cosine polynomial is the specification's. -/
theorem R3.polC (ha : R3 a f) : R3 (polC h a) fun b t k => Spec.polC (f b t k) := by
  refine ((R3.splat (h := h) 0x3F800000#32 (by decide)).add ((ha.mul ha).mul ((R3.splat (h := h) 0xBF000000#32 (by decide)).add
    ((ha.mul ha).mul ((R3.splat (h := h) 0x3D2AAAA5#32 (by decide)).add
      ((ha.mul ha).mul (R3.splat (h := h) 0xBAB6061A#32 (by decide)))))))).congr fun b t k => ?_
  rw [c32_one, c32_neg_half]; rfl

/-- A choice by quadrant. -/
theorem select_quad {α : Type} (k w : BitVec 32) (u v : α) :
    Scalar.select (IntOp.cmpi .eq (IntOp.andi k 3#32) w) u v = if quad k = w then u else v := by
  unfold Scalar.select IntOp.cmpi IntOp.andi quad
  by_cases e : k &&& 3#32 = w
  · simp [e]
  · have hb : (k &&& 3#32 == w) = false := by simpa using e
    rw [if_neg e, if_neg (by simp only [hb]; decide)]

/-- A choice by quadrant between arrays of real numbers. -/
theorem R3.choose {u v : FVec Ideal ⟨3, ![4, 8192, n]⟩ .f32} {c d : Fin 4 → ℕ → Fin n → ℝ} (ha : R3 a f) (w : BitVec 32)
    (hu : R3 u c) (hv : R3 v d) :
    R3 (select (inQuad h a w) u v) fun b t k => if quad (Spec.turns (f b t k)) = w then c b t k else d b t k := fun b t k => by
  show Scalar.select (IntOp.cmpi .eq (IntOp.andi (turns h a (ix3 b t k)) 3#32) w) (u (ix3 b t k)) (v (ix3 b t k)) = _
  rw [select_quad, turns_apply ha, hu, hv]
  dsimp only
  split <;> rfl

/-- The reference's sine is the specification's. -/
theorem R3.sine (ha : R3 a f) : R3 (sine h a) fun b t k => sn (f b t k) :=
  ha.choose _ ha.rest.polS (ha.choose _ ha.rest.polC (ha.choose _ ha.rest.polS.neg ha.rest.polC.neg))

/-- The reference's cosine is the specification's. -/
theorem R3.cosine (ha : R3 a f) : R3 (cosine h a) fun b t k => cs (f b t k) :=
  ha.choose _ ha.rest.polC (ha.choose _ ha.rest.polS.neg (ha.choose _ ha.rest.polC.neg ha.rest.polS))

end Elementwise

/-! ## Linear layers -/

/-- A bias in every row. -/
def bias512 (v : FVec Ideal S512 .f32) : FVec Ideal S4x8192x512 .f32 :=
  broadcastInDim S4x8192x512 ![0, 1, 2] bcast_S1x1x512_S4x8192x512_0_1_2 (broadcastInDim S1x1x512 ![2] bcast_S512_S1x1x512_2 v)
/-- A bias of 1024 entries for every row. -/
def bias1024 (v : FVec Ideal S1024 .f32) : FVec Ideal S4x8192x1024 .f32 :=
  broadcastInDim S4x8192x1024 ![0, 1, 2] bcast_S1x1x1024_S4x8192x1024_0_1_2 (broadcastInDim S1x1x1024 ![2] bcast_S1024_S1x1x1024_2 v)
/-- A bias of 2048 entries for every row. -/
def bias2048 (v : FVec Ideal S2048 .f32) : FVec Ideal S4x8192x2048 .f32 :=
  broadcastInDim S4x8192x2048 ![0, 1, 2] bcast_S1x1x2048_S4x8192x2048_0_1_2 (broadcastInDim S1x1x2048 ![2] bcast_S2048_S1x1x2048_2 v)

/-- A bias of 512 real numbers for every row holds those numbers in every row. -/
theorem R3.bias512 {v : FVec Ideal S512 .f32} {g : Fin 512 → ℝ} (hv : ∀ k, v (ix1 k) = ((g k : ℝ) : EReal)) :
    R3 (bias512 v) fun _ _ k => g k := fun b t k => by
  have e : HostReals.bias512 v (ix3 b t k) = v (ix1 k) := by unfold HostReals.bias512; pointwise
  rw [e, hv]
/-- A bias of 1024 real numbers for every row holds those numbers in every row. -/
theorem R3.bias1024 {v : FVec Ideal S1024 .f32} {g : Fin 1024 → ℝ} (hv : ∀ k, v (ix1 k) = ((g k : ℝ) : EReal)) :
    R3 (bias1024 v) fun _ _ k => g k := fun b t k => by
  have e : HostReals.bias1024 v (ix3 b t k) = v (ix1 k) := by unfold HostReals.bias1024; pointwise
  rw [e, hv]
/-- A bias of 2048 real numbers for every row holds those numbers in every row. -/
theorem R3.bias2048 {v : FVec Ideal S2048 .f32} {g : Fin 2048 → ℝ} (hv : ∀ k, v (ix1 k) = ((g k : ℝ) : EReal)) :
    R3 (bias2048 v) fun _ _ k => g k := fun b t k => by
  have e : HostReals.bias2048 v (ix3 b t k) = v (ix1 k) := by unfold HostReals.bias2048; pointwise
  rw [e, hv]

/-- A product with a square weight. -/
def dot512 (a : FVec Ideal S4x8192x512 .f32) (w : FVec Ideal S512x512 .f32) : FVec Ideal S4x8192x512 .f32 :=
  Host.dotGeneral dot_S4x8192x512_S512x512_S4x8192x512_2_0_01_1_n_n none a w
/-- The product of the rows with the first output weights. -/
def dot2048 (a : FVec Ideal S4x8192x2048 .f32) (w : FVec Ideal S2048x1024 .f32) : FVec Ideal S4x8192x1024 .f32 :=
  Host.dotGeneral dot_S4x8192x2048_S2048x1024_S4x8192x1024_2_0_01_1_n_n none a w
/-- The product of the rows with the last weights. -/
def dot1024 (a : FVec Ideal S4x8192x1024 .f32) (w : FVec Ideal S1024x512 .f32) : FVec Ideal S4x8192x512 .f32 :=
  Host.dotGeneral dot_S4x8192x1024_S1024x512_S4x8192x512_2_0_01_1_n_n none a w

/-- A product over 512 real entries is the real sum of products. -/
theorem R3.dot512 {a : FVec Ideal S4x8192x512 .f32} {f : Fin 4 → ℕ → Fin 512 → ℝ} {w : FVec Ideal S512x512 .f32}
    {W : Fin 512 → Fin 512 → ℝ} (ha : R3 a f) (hw : ∀ i k, w (ix2 i k) = ((W i k : ℝ) : EReal)) :
    R3 (dot512 a w) fun b t j => ∑ i, f b t i * W i j := fun b t j => by
  have e : HostReals.dot512 a w (ix3 b t j) = ∑ i, a (ix3 b t i) * w (ix2 i j) := by unfold HostReals.dot512; pointwise
  rw [e, ← Reals.coe_sum]
  exact sum_congr rfl fun i _ => by rw [ha, hw, ← EReal.coe_mul]
/-- A product over 2048 real entries is the real sum of products. -/
theorem R3.dot2048 {a : FVec Ideal S4x8192x2048 .f32} {f : Fin 4 → ℕ → Fin 2048 → ℝ} {w : FVec Ideal S2048x1024 .f32}
    {W : Fin 2048 → Fin 1024 → ℝ} (ha : R3 a f) (hw : ∀ i k, w (ix2 i k) = ((W i k : ℝ) : EReal)) :
    R3 (dot2048 a w) fun b t j => ∑ i, f b t i * W i j := fun b t j => by
  have e : HostReals.dot2048 a w (ix3 b t j) = ∑ i, a (ix3 b t i) * w (ix2 i j) := by unfold HostReals.dot2048; pointwise
  rw [e, ← Reals.coe_sum]
  exact sum_congr rfl fun i _ => by rw [ha, hw, ← EReal.coe_mul]
/-- A product over 1024 real entries is the real sum of products. -/
theorem R3.dot1024 {a : FVec Ideal S4x8192x1024 .f32} {f : Fin 4 → ℕ → Fin 1024 → ℝ} {w : FVec Ideal S1024x512 .f32}
    {W : Fin 1024 → Fin 512 → ℝ} (ha : R3 a f) (hw : ∀ i k, w (ix2 i k) = ((W i k : ℝ) : EReal)) :
    R3 (dot1024 a w) fun b t j => ∑ i, f b t i * W i j := fun b t j => by
  have e : HostReals.dot1024 a w (ix3 b t j) = ∑ i, a (ix3 b t i) * w (ix2 i j) := by unfold HostReals.dot1024; pointwise
  rw [e, ← Reals.coe_sum]
  exact sum_congr rfl fun i _ => by rw [ha, hw, ← EReal.coe_mul]

/-! ## The context and its layer norm -/

/-- A row of 2048 entries from its four quarters. -/
def flat (a : Fin 4 → Fin 512 → ℝ) (r : Fin 2048) : ℝ := a ⟨r.val / 512, by omega⟩ ⟨r.val % 512, by omega⟩

/-- Column `k` of quarter `q` of the flattened row is entry `(q, k)`. -/
theorem flat_col (a : Fin 4 → Fin 512 → ℝ) (q : Fin 4) (k : Fin 512) : flat a (Arrays.col q k) = a q k := by
  have h1 : (⟨(Arrays.col q k).val / 512, by omega⟩ : Fin 4) = q := Fin.ext (by simp [Arrays.col]; omega)
  have h2 : (⟨(Arrays.col q k).val % 512, by omega⟩ : Fin 512) = k := Fin.ext (by simp [Arrays.col])
  unfold flat; rw [h1, h2]

/-- The sum over a flattened row is the sum over its quarters' entries. -/
theorem sum_flat (a : Fin 4 → Fin 512 → ℝ) : ∑ r, flat a r = ∑ q, ∑ k, a q k := by
  rw [Arrays.sum_col]; simp only [flat_col]

/-- Four arrays side by side. -/
def side (a b c d : FVec Ideal S4x8192x512 .f32) : FVec Ideal S4x8192x2048 .f32 :=
  concatenate S4x8192x2048 2 [⟨S4x8192x512, a⟩, ⟨S4x8192x512, b⟩, ⟨S4x8192x512, c⟩, ⟨S4x8192x512, d⟩]
    concatenates_S4x8192x512_S4x8192x512_S4x8192x512_S4x8192x512_S4x8192x2048_d2

/-- Four arrays side by side hold, in quarter `q`, the array number `q`. -/
theorem side_apply (a b c d : FVec Ideal S4x8192x512 .f32) (i : Fin 4) (t : Fin 8192) (q : Fin 4) (k : Fin 512) :
    side a b c d (ix3 i t (Arrays.col q k)) = ![a, b, c, d] q (ix3 i t k) := by
  unfold side Arrays.col
  fin_cases q
  · pointwise
  · pointwise
  · pointwise
    rw [dif_neg (by omega), dif_neg (by omega), dif_pos (by omega)]
    exact congrArg (fun r => c (ix3 i t r)) (Fin.ext (by dsimp only; omega))
  · pointwise
    rw [dif_neg (by omega), dif_neg (by omega), dif_neg (by omega)]
    exact congrArg (fun r => d (ix3 i t r)) (Fin.ext (by dsimp only; omega))

/-- The sum of each row. -/
def rowSum (x : FVec Ideal S4x8192x2048 .f32) : FVec Ideal S4x8192x1 .f32 :=
  broadcastInDim S4x8192x1 ![0, 1] bcast_S4x8192_S4x8192x1_0_1
    (Host.reduceAdd x (constant (F := Ideal) S_ .f32 0x00000000#32) reducesTo_S4x8192x2048_S4x8192_d2 h_S_)

/-- The reference's row sum is the sum of the row's entries. -/
theorem rowSum_apply (x : FVec Ideal S4x8192x2048 .f32) (i : Fin 4) (t : Fin 8192) (k : Fin 1) :
    rowSum x (ix3 i t k) = ∑ r, x (ix3 i t r) := by
  unfold rowSum; pointwise

/-- A column in every column. -/
def wide (y : FVec Ideal S4x8192x1 .f32) : FVec Ideal S4x8192x2048 .f32 :=
  broadcastInDim S4x8192x2048 ![0, 1, 2] bcast_S4x8192x1_S4x8192x2048_0_1_2 y

/-- The mean of each row. -/
def rowMean (x : FVec Ideal S4x8192x2048 .f32) : FVec Ideal S4x8192x1 .f32 :=
  Host.divf (rowSum x) (splat bcast_S_S4x8192x1 0x45000000#32)

/-- The entries less their row's mean. -/
def centred (x : FVec Ideal S4x8192x2048 .f32) : FVec Ideal S4x8192x2048 .f32 := subf x (wide (rowMean x))

/-- The number of entries of a row, less no degree of freedom. -/
def count : FVec Ideal S_ .f32 := subf (constant (F := Ideal) S_ .f32 0x45000000#32) (sitofp .f32 (constantI S_ 32 0#32))

/-- The variance of each row, where the number of entries is positive. -/
def rowVar (x : FVec Ideal S4x8192x2048 .f32) : FVec Ideal S4x8192x1 .f32 :=
  select (broadcastInDim S4x8192x1 ![] bcast_S_S4x8192x1 (cmpf .ogt count (constant (F := Ideal) S_ .f32 0x00000000#32)))
    (Host.divf (rowSum (mulf (centred x) (centred x))) (broadcastInDim S4x8192x1 ![] bcast_S_S4x8192x1 count))
    (broadcastInDim S4x8192x1 ![] bcast_S_S4x8192x1 (constant (F := Ideal) S_ .f32 0x7FC00000#32))

/-- The layer norm. -/
def layerNorm (x : FVec Ideal S4x8192x2048 .f32) (g lb : FVec Ideal S2048 .f32) : FVec Ideal S4x8192x2048 .f32 :=
  addf (mulf (Host.divf (centred x) (wide (Host.sqrt (addf (rowVar x) (splat bcast_S_S4x8192x1 0x3727C5AC#32))))) (bias2048 g)) (bias2048 lb)

section Norm
variable {x : FVec Ideal S4x8192x2048 .f32} {a : Fin 4 → ℕ → Fin 4 → Fin 512 → ℝ}

/-- Four real arrays side by side are the flattened rows of their real numbers. -/
theorem R3.side {a b c d : FVec Ideal S4x8192x512 .f32} {f : Fin 4 → Fin 4 → ℕ → Fin 512 → ℝ} (ha : R3 a (f 0)) (hb : R3 b (f 1))
    (hc : R3 c (f 2)) (hd : R3 d (f 3)) : R3 (side a b c d) fun i t => flat fun q => f q i t := fun i t r => by
  obtain ⟨q, k, rfl⟩ := Arrays.exists_col r
  rw [side_apply]
  dsimp only
  rw [flat_col]
  fin_cases q
  · exact ha i t k
  · exact hb i t k
  · exact hc i t k
  · exact hd i t k

/-- The sum of a flattened real row is the sum over its quarters. -/
theorem R3.rowSum (hx : R3 x fun b t => flat (a b t)) : R3 (rowSum x) fun b t _ => ∑ q, ∑ k, a b t q k := fun b t k => by
  rw [rowSum_apply]
  dsimp only
  rw [← sum_flat, ← Reals.coe_sum]
  exact sum_congr rfl fun r _ => hx b t r

/-- One real number for each row, repeated along the row. -/
theorem R3.wide {y : FVec Ideal S4x8192x1 .f32} {c : Fin 4 → ℕ → ℝ} (hy : R3 y fun b t _ => c b t) : R3 (wide y) fun b t _ => c b t :=
  fun b t k => by
    have e : HostReals.wide y (ix3 b t k) = y (ix3 b t 0) := by unfold HostReals.wide; pointwise
    rw [e, hy]

/-- The reference's row mean is the specification's mean. -/
theorem R3.rowMean (hx : R3 x fun b t => flat (a b t)) : R3 (rowMean x) fun b t _ => mean (a b t) := by
  refine (hx.rowSum.div (R3.splat (h := bcast_S_S4x8192x1) 0x45000000#32 (by decide)) fun _ _ _ => ?_).congr fun b t k => ?_
  · rw [c32_2048]; norm_num
  · rw [c32_2048]; rfl

/-- The row less its mean, as real numbers. -/
theorem R3.centred (hx : R3 x fun b t => flat (a b t)) : R3 (centred x) fun b t => flat fun q k => a b t q k - mean (a b t) :=
  hx.sub hx.rowMean.wide

/-- The divisor of the variance is 2048. -/
theorem count_apply (i : S_.Idx) : count i = ((2048 : ℝ) : EReal) := by
  show Ideal.ofBits .f32 0x45000000#32 - (((0#32 : BitVec 32).toInt : ℝ) : EReal) = _
  rw [ofBits_eq _ (by decide), c32_2048]; simp

/-- The reference's row variance is the specification's variance. -/
theorem R3.rowVar (hx : R3 x fun b t => flat (a b t)) : R3 (rowVar x) fun b t _ => vari (a b t) := fun b t k => by
  have hs := ((hx.centred.mul hx.centred).congr (g := fun b t => flat fun q k => (a b t q k - mean (a b t)) * (a b t q k - mean (a b t)))
    fun _ _ _ => rfl).rowSum b t k
  show Scalar.select (FloatOps.cmpf .ogt (count _) (Ideal.ofBits .f32 0x00000000#32)) (Ideal.div (HostReals.rowSum _ (ix3 b t k)) (count _)) _ = _
  rw [count_apply, hs, Ideal.ofBits_zero_f32, Ideal.div_coe (by norm_num)]
  have hc : FloatOps.cmpf (F := Ideal) (φ := .f32) .ogt ((2048 : ℝ) : EReal) 0 = 1#1 := by
    show BitVec.ofBool (decide ((0 : EReal) < ((2048 : ℝ) : EReal))) = 1#1
    rw [decide_eq_true (by exact_mod_cast (by norm_num : (0 : ℝ) < 2048))]; rfl
  rw [hc, ← EReal.coe_mul, mul_one_div]
  rfl

/-- The reference's layer norm, as real numbers. -/
theorem R3.layerNorm (hx : R3 x fun b t => flat (a b t)) {g lb : FVec Ideal S2048 .f32} {G L : Fin 4 → Fin 512 → ℝ}
    (hg : ∀ k, g (ix1 k) = ((flat G k : ℝ) : EReal)) (hl : ∀ k, lb (ix1 k) = ((flat L k : ℝ) : EReal)) :
    R3 (layerNorm x g lb) fun b t => flat (norm G L (a b t)) := by
  have hv := (hx.rowVar.add (R3.splat (h := bcast_S_S4x8192x1) 0x3727C5AC#32 (by decide)))
  have hr := hv.sqrt fun b t _ => (vari_eps_pos (a b t.val)).le
  exact ((hx.centred.div hr.wide fun b t _ => (Real.sqrt_pos.mpr (vari_eps_pos (a b t.val))).ne').mul (R3.bias2048 hg)).add (R3.bias2048 hl)

end Norm

end Cert.HostReals

end
-- ==== Proof.Reference.lean ====
module

public import proofs.«01_k».proof.Proof.Layers

@[expose] public section

noncomputable section

/-! The reference's result on finite arguments, as real numbers. -/

namespace Cert.Reference

open Idealize.ShloMosaic Cert.ReferenceIdeal Cert.ReferenceIdeal.Gen Cert.Spec Cert.HostReals Cert.ReferenceIdeal.Read Finset

variable (A : Arrays.Arrays)

/-- The angle. -/
def phi : FVec Ideal S4x8192x512 .f32 := val_main_v42 (F := Ideal) A.x A.wOm A.bOm A.wP1 A.bP1 A.wP2 A.bP2 A.scale

/-- The magnitude. -/
def mag : FVec Ideal S4x8192x512 .f32 := val_main_v15 (F := Ideal) A.x A.wMag A.bMag

/-- The angle that is queried. -/
def phiQ : FVec Ideal S4x8192x512 .f32 := val_main_v119 (F := Ideal) A.x A.wOm A.bOm A.wP1 A.bP1 A.wP2 A.bP2 A.scale A.wQ A.bQ

/-- The two parts of the normalized memory. -/
def memR : FVec Ideal S4x8192x512 .f32 := val_main_v113 (F := Ideal) A.x A.wOm A.bOm A.wP1 A.bP1 A.wP2 A.bP2 A.scale A.wMag A.bMag

/-- The memory's imaginary part, normalised. -/
def memI : FVec Ideal S4x8192x512 .f32 := val_main_v114 (F := Ideal) A.x A.wOm A.bOm A.wP1 A.bP1 A.wP2 A.bP2 A.scale A.wMag A.bMag

/-- The context. -/
def ctx : FVec Ideal S4x8192x2048 .f32 :=
  val_main_v189 (F := Ideal) A.x A.wOm A.bOm A.wP1 A.bP1 A.wP2 A.bP2 A.scale A.wMag A.bMag A.wQ A.bQ

/-- The first output layer. -/
def hid : FVec Ideal S4x8192x1024 .f32 :=
  val_main_v211 (F := Ideal) A.x A.wOm A.bOm A.wP1 A.bP1 A.wP2 A.bP2 A.scale A.wMag A.bMag A.wQ A.bQ A.g A.lb A.wO1 A.bO1

/-- The result. -/
def out : FVec Ideal S4x8192x512 .f32 :=
  val_main_v229 (F := Ideal) A.x A.wOm A.bOm A.wP1 A.bP1 A.wP2 A.bP2 A.scale A.wMag A.bMag A.wQ A.bQ A.g A.lb A.wO1 A.bO1 A.wO2 A.bO2

/-! ## Each as the layers -/

/-- A running sum down the rows. -/
def cumsum (x : FVec Ideal S4x8192x512 .f32) : FVec Ideal S4x8192x512 .f32 :=
  Host.reduceWindowAdd ![1, 8192, 1] ![1, 1, 1] ![0, 8191, 0] ![0, 0, 0] x
    (broadcastInDim S_ ![] bcast_S_S_ (constant (F := Ideal) S_ .f32 0x00000000#32))
    reduceWindows_S4x8192x512_S4x8192x512_w1s1p0_0_w8192s1p8191_0_w1s1p0_0 h_S_

/-- The magnitude, by layers. -/
theorem mag_eq : mag A = sigm bcast_S_S4x8192x512 (addf (dot512 A.x A.wMag) (bias512 A.bMag)) := rfl

/-- The angle, by layers. -/
theorem phi_eq : phi A =
    addf (addf (dot512 (gelu bcast_S_S4x8192x512 (addf (dot512 A.x A.wP1) (bias512 A.bP1))) A.wP2) (bias512 A.bP2))
      (cumsum (mulf (addf (dot512 A.x A.wOm) (bias512 A.bOm)) (bias512 (Host.absf A.scale)))) := rfl

/-- The query's angle, by layers. -/
theorem phiQ_eq : phiQ A = addf (addf (phi A) (dot512 A.x A.wQ)) (bias512 A.bQ) := rfl

/-- The cosine of the angle. -/
theorem cos_eq : val_main_v103 (F := Ideal) A.x A.wOm A.bOm A.wP1 A.bP1 A.wP2 A.bP2 A.scale = cosine bcast_S_S4x8192x512 (phi A) := rfl

/-- The sine of the angle. -/
theorem sin_eq : val_main_v92 (F := Ideal) A.x A.wOm A.bOm A.wP1 A.bP1 A.wP2 A.bP2 A.scale = sine bcast_S_S4x8192x512 (phi A) := rfl

/-- The cosine of the query's angle. -/
theorem cosQ_eq : val_main_v180 (F := Ideal) A.x A.wOm A.bOm A.wP1 A.bP1 A.wP2 A.bP2 A.scale A.wQ A.bQ
    = cosine bcast_S_S4x8192x512 (phiQ A) := rfl
/-- The sine of the query's angle. -/
theorem sinQ_eq : val_main_v169 (F := Ideal) A.x A.wOm A.bOm A.wP1 A.bP1 A.wP2 A.bP2 A.scale A.wQ A.bQ
    = sine bcast_S_S4x8192x512 (phiQ A) := rfl

/-- The memory's real part, by layers. -/
theorem memR_eq : memR A = Host.divf (cumsum (mulf (mulf (mag A) A.x)
      (val_main_v103 (F := Ideal) A.x A.wOm A.bOm A.wP1 A.bP1 A.wP2 A.bP2 A.scale)))
    (Host.sqrt (addf (cumsum (mag A)) (splat bcast_S_S4x8192x512 0x322BCC77#32))) := rfl
/-- The memory's imaginary part, by layers. -/
theorem memI_eq : memI A = Host.divf (cumsum (mulf (mulf (mag A) A.x)
      (val_main_v92 (F := Ideal) A.x A.wOm A.bOm A.wP1 A.bP1 A.wP2 A.bP2 A.scale)))
    (Host.sqrt (addf (cumsum (mag A)) (splat bcast_S_S4x8192x512 0x322BCC77#32))) := rfl

/-- The context, its four quarters side by side. -/
theorem ctx_eq : ctx A = side
    (mulf A.x (val_main_v103 (F := Ideal) A.x A.wOm A.bOm A.wP1 A.bP1 A.wP2 A.bP2 A.scale))
    (mulf A.x (val_main_v92 (F := Ideal) A.x A.wOm A.bOm A.wP1 A.bP1 A.wP2 A.bP2 A.scale))
    (addf (mulf (memR A) (val_main_v180 (F := Ideal) A.x A.wOm A.bOm A.wP1 A.bP1 A.wP2 A.bP2 A.scale A.wQ A.bQ))
      (mulf (memI A) (val_main_v169 (F := Ideal) A.x A.wOm A.bOm A.wP1 A.bP1 A.wP2 A.bP2 A.scale A.wQ A.bQ)))
    (subf (mulf (memI A) (val_main_v180 (F := Ideal) A.x A.wOm A.bOm A.wP1 A.bP1 A.wP2 A.bP2 A.scale A.wQ A.bQ))
      (mulf (memR A) (val_main_v169 (F := Ideal) A.x A.wOm A.bOm A.wP1 A.bP1 A.wP2 A.bP2 A.scale A.wQ A.bQ))) := rfl

/-- The hidden layer before its gelu, by layers. -/
theorem hid_eq : hid A = addf (dot2048 (layerNorm (ctx A) A.g A.lb) A.wO1) (bias1024 A.bO1) := rfl

/-- The result, by layers. -/
theorem out_eq : out A = addf (addf A.x (dot1024 (gelu bcast_S_S4x8192x1024 (hid A)) A.wO2)) (bias512 A.bO2) := rfl

/-! ## Each in real numbers -/

variable {A} (hA : A.Finite)
include hA

/-- The argument `x` as real numbers. -/
theorem x_re : R3 A.x fun b => A.rows b := fun b t k => by
  dsimp only; rw [A.rows_of_lt]; exact hA.x _

/-- A linear layer with real weights and biases is the specification's. -/
theorem lin_re {a : FVec Ideal S4x8192x512 .f32} {f : Fin 4 → ℕ → Fin 512 → ℝ} {w : FVec Ideal S512x512 .f32} {v : FVec Ideal S512 .f32}
    (ha : R3 a f) (hw : ∀ i, w i = ((w i).toReal : EReal)) (hv : ∀ i, v i = ((v i).toReal : EReal)) :
    R3 (addf (dot512 a w) (bias512 v)) fun b t => lin (fun i k => (w (ix2 i k)).toReal) (fun k => (v (ix1 k)).toReal) (f b t) :=
  (ha.dot512 fun _ _ => hw _).add (R3.bias512 fun _ => hv _)

/-- The reference's cumulative sum is the specification's prefix sum. -/
theorem cumsum_re {x : FVec Ideal S4x8192x512 .f32} {f : Fin 4 → ℕ → Fin 512 → ℝ} (hx : R3 x f) :
    R3 (cumsum x) fun b t k => Spec.pre (f b) t k :=
  running_sum x _ Ideal.ofBits_zero_f32 hx

/-- The reference's magnitude is the specification's. -/
theorem mag_re : R3 (mag A) fun b => A.params.mg (A.rows b) := by
  rw [mag_eq]; exact (lin_re hA (x_re hA) hA.wMag hA.bMag).sigm

/-- The reference's scale is the magnitude of the argument's. -/
theorem scale_re : R3 (bias512 (Host.absf A.scale)) fun _ _ k => |A.params.scale k| := by
  refine R3.bias512 fun k => ?_
  show max (A.scale _) (-A.scale _) = _
  rw [hA.scale, ← EReal.coe_neg]
  exact (EReal.coe_strictMono.monotone.map_max (a := (A.scale (ix1 k)).toReal) (b := -(A.scale (ix1 k)).toReal)).symm

/-- The reference's angle is the specification's. -/
theorem phi_re : R3 (phi A) fun b => A.params.phi (A.rows b) := by
  rw [phi_eq]
  refine ((lin_re hA (lin_re hA (x_re hA) hA.wP1 hA.bP1).gelu hA.wP2 hA.bP2).add
    (cumsum_re hA ((lin_re hA (x_re hA) hA.wOm hA.bOm).mul (scale_re hA)))).congr fun b t k => ?_
  unfold Params.phi Spec.pre
  rw [sum_mul]; rfl

/-- The reference's query angle is the specification's. -/
theorem phiQ_re : R3 (phiQ A) fun b => A.params.phiQ (A.rows b) := by
  rw [phiQ_eq]
  refine (((phi_re hA).add ((x_re hA).dot512 fun _ _ => hA.wQ _)).add (R3.bias512 fun _ => hA.bQ _)).congr fun b t k => ?_
  unfold Params.phiQ Params.qz lin
  rw [add_assoc]; rfl

/-- The root that the memory is divided by, as a real number. -/
theorem under_re : R3 (Host.sqrt (addf (cumsum (mag A)) (splat bcast_S_S4x8192x512 0x322BCC77#32)))
    fun b t k => Real.sqrt (Spec.pre (A.params.mg (A.rows b)) t k + c32 0x322BCC77#32) :=
  ((cumsum_re hA (mag_re hA)).add (R3.splat _ (by decide))).sqrt fun _ _ _ => (A.params.under_pos _ _ _).le

/-- The reference's real part of the memory is the specification's. -/
theorem memR_re : R3 (memR A) fun b => A.params.mr (A.rows b) := by
  rw [memR_eq, cos_eq]
  refine ((cumsum_re hA (((mag_re hA).mul (x_re hA)).mul (phi_re hA).cosine)).div (under_re hA)
    fun _ _ _ => (Real.sqrt_pos.mpr (A.params.under_pos _ _ _)).ne').congr fun b t k => ?_
  rw [div_eq_mul_inv]; rfl

/-- The reference's imaginary part of the memory is the specification's. -/
theorem memI_re : R3 (memI A) fun b => A.params.mi (A.rows b) := by
  rw [memI_eq, sin_eq]
  refine ((cumsum_re hA (((mag_re hA).mul (x_re hA)).mul (phi_re hA).sine)).div (under_re hA)
    fun _ _ _ => (Real.sqrt_pos.mpr (A.params.under_pos _ _ _)).ne').congr fun b t k => ?_
  rw [div_eq_mul_inv]; rfl

/-- The reference's context is the specification's, its quarters side by side. -/
theorem ctx_re : R3 (ctx A) fun b t => flat (A.params.ctx (A.rows b) t) := by
  rw [ctx_eq, cos_eq, sin_eq, cosQ_eq, sinQ_eq]
  refine (R3.side (f := fun q b t => A.params.ctx (A.rows b) t q) ((x_re hA).mul (phi_re hA).cosine) ((x_re hA).mul (phi_re hA).sine)
    (((memR_re hA).mul (phiQ_re hA).cosine).add ((memI_re hA).mul (phiQ_re hA).sine))
    (((memI_re hA).mul (phiQ_re hA).cosine).sub ((memR_re hA).mul (phiQ_re hA).sine)))

/-- The reference's hidden layer is the specification's. -/
theorem hid_re : R3 (hid A) fun b => A.params.hid (A.rows b) := by
  rw [hid_eq]
  have flat_mk : ∀ (v : Fin 2048 → ℝ) (r : Fin 2048), v r = flat (fun q k => v (Arrays.col q k)) r := fun v r => by
    obtain ⟨q, k, rfl⟩ := Arrays.exists_col r
    rw [flat_col]
  have hn := (ctx_re hA).layerNorm (g := A.g) (lb := A.lb) (G := A.params.g) (L := A.params.lb)
    (fun k => by rw [hA.g]; exact congrArg _ (flat_mk (fun r => (A.g (ix1 r)).toReal) k))
    (fun k => by rw [hA.lb]; exact congrArg _ (flat_mk (fun r => (A.lb (ix1 r)).toReal) k))
  refine ((hn.dot2048 (W := fun r j => (A.wO1 (ix2 r j)).toReal) fun _ _ => hA.wO1 _).add (R3.bias1024 fun _ => hA.bO1 _)).congr
    fun b t j => ?_
  rw [Arrays.sum_col]
  simp only [flat_col]
  rfl

/-- The reference's result. -/
theorem value : R3 (out A) fun b => A.params.result (A.rows b) := by
  rw [out_eq]
  exact (((x_re hA).add ((hid_re hA).gelu.dot1024 fun _ _ => hA.wO2 _)).add (R3.bias512 fun _ => hA.bO2 _))

end Cert.Reference

end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Finite
public import proofs.«01_k».proof.Proof.Fold
public import proofs.«01_k».proof.Proof.Reference
public import Idealize.ShloMosaic.Adequacy
public import Idealize.ShloMosaic.Init
public import Idealize.ShloMosaic.Lib.Quiescent

@[expose] public section

noncomputable section

/-! The claims, from the runs of the programs and the two values in real numbers. -/

namespace Cert.Proof

open Idealize.ShloMosaic Idealize.SL.Sem

/-- On finite arguments the reference's result is the kernel's. -/
theorem results_eq (m : (ℓ : Loc Cert.KernelIdeal.nD Cert.KernelIdeal.τ Cert.KernelIdeal.sig) → Buf (Elt Ideal) ℓ)
    (c : Dev Cert.KernelIdeal.nD) (hA : (Entry.args m c).Finite) :
    Reference.out (Entry.args m c) = Cert.KernelIdeal.Value.G18 m c := by
  funext i
  obtain ⟨b, t, k, rfl⟩ : ∃ (b : Fin 4) (t : Fin 8192) (k : Fin 512), i = ix3 b t k :=
    ⟨i 0, i 1, i 2, funext fun a => by fin_cases a <;> rfl⟩
  exact (Reference.value hA b t k).trans (Fold.value hA b t k).symm

/-- The reference's result depends on its arguments only. -/
theorem out_congr {A B : Arrays.Arrays} (h0 : A.x = B.x) (h1 : A.wOm = B.wOm) (h2 : A.bOm = B.bOm) (h3 : A.wP1 = B.wP1)
    (h4 : A.bP1 = B.bP1) (h5 : A.wP2 = B.wP2) (h6 : A.bP2 = B.bP2) (h7 : A.scale = B.scale) (h8 : A.wMag = B.wMag)
    (h9 : A.bMag = B.bMag) (h10 : A.wQ = B.wQ) (h11 : A.bQ = B.bQ) (h12 : A.g = B.g) (h13 : A.lb = B.lb) (h14 : A.wO1 = B.wO1)
    (h15 : A.bO1 = B.bO1) (h16 : A.wO2 = B.wO2) (h17 : A.bO2 = B.bO2) : Reference.out A = Reference.out B := by
  unfold Reference.out
  rw [h0, h1, h2, h3, h4, h5, h6, h7, h8, h9, h10, h11, h12, h13, h14, h15, h16, h17]

/-- The idealized reference runs and leaves its arguments as they were. -/
theorem quiescent_ReferenceIdeal : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The idealized kernel and the idealized reference end with equal results on finite arguments. -/
theorem algebraic : Cert.algebraic_KernelIdeal_ReferenceIdeal_pre_finite (hKernelIdeal := Cert.KernelIdeal.Gen.facts)
    (hReferenceIdeal := Cert.ReferenceIdeal.Gen.facts) (hPre_finite := Finite.facts) := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  refine ((h c).1.trans (Cert.ReferenceIdeal.Read.val_main_v229_eq (F := Ideal) _)).trans ?_
  obtain ⟨h0, h1, h2, h3, h4, h5, h6, h7, h8, h9, h10, h11, h12, h13, h14, h15, h16, h17⟩ := hagree c
  refine Eq.trans ?_ (results_eq m c (Finite.args_finite m hpre c))
  exact out_congr (A := ⟨_, _, _, _, _, _, _, _, _, _, _, _, _, _, _, _, _, _⟩) (B := Entry.args m c)
    h0 h1 h2 h3 h4 h5 h6 h7 h8 h9 h10 h11 h12 h13 h14 h15 h16 h17

/-- Every claim. -/
theorem claim : Cert.Claim :=
  ⟨Cert.Kernel.Gen.facts, Cert.KernelIdeal.Gen.facts, Cert.ReferenceIdeal.Gen.facts, Finite.facts,
    fun m ρ _ => Cert.Kernel.Gen.frame m ρ, fun m ρ _ => Cert.KernelIdeal.Gen.frame m ρ, fun m ρ _ => Cert.KernelIdeal.Gen.frame m ρ,
    quiescent_ReferenceIdeal, fun m ρ _ => quiescent_ReferenceIdeal m ρ trivial,
    IdealRules.named_const.statement _ _ _ _ _ rfl, algebraic⟩

end Cert.Proof

end
